-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6)
      ∧ r.2.mem ((c.tc : Thread Cert.Kernel13.nD Cert.Kernel13.τ).loc Cert.Kernel13.main_arg7) = m ((c.tc : Thread Cert.Kernel13.nD Cert.Kernel13.τ).loc Cert.Kernel13.main_arg7)
      ∧ r.2.mem ((c.tc : Thread Cert.Kernel13.nD Cert.Kernel13.τ).loc Cert.Kernel13.main_arg8) = m ((c.tc : Thread Cert.Kernel13.nD Cert.Kernel13.τ).loc Cert.Kernel13.main_arg8))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
      ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7)
      ∧ r.2.mem ((c.tc : Thread Cert.Reference13Ideal.nD Cert.Reference13Ideal.τ).loc Cert.Reference13Ideal.main_arg8) = m ((c.tc : Thread Cert.Reference13Ideal.nD Cert.Reference13Ideal.τ).loc Cert.Reference13Ideal.main_arg8))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v27) = v0 c
          ∧ r.2.mem ((c.tc : Thread Cert.Reference5Ideal.nD Cert.Reference5Ideal.τ).loc Cert.Reference5Ideal.main_v28) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v24) = v0 c
          ∧ r.2.mem ((c.tc : Thread Cert.Reference6Ideal.nD Cert.Reference6Ideal.τ).loc Cert.Reference6Ideal.main_v25) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v30) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v25) = v0 c
          ∧ r.2.mem ((c.tc : Thread Cert.Reference9Ideal.nD Cert.Reference9Ideal.τ).loc Cert.Reference9Ideal.main_v26) = v1 c
          ∧ r.2.mem ((c.tc : Thread Cert.Reference9Ideal.nD Cert.Reference9Ideal.τ).loc Cert.Reference9Ideal.main_v27) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)
      ∧ m' ((c.tc : Thread Cert.Reference13Ideal.nD Cert.Reference13Ideal.τ).loc Cert.Reference13Ideal.main_arg7) = m ((c.tc : Thread Cert.Kernel13Ideal.nD Cert.Kernel13Ideal.τ).loc Cert.Kernel13Ideal.main_arg7)
      ∧ m' ((c.tc : Thread Cert.Reference13Ideal.nD Cert.Reference13Ideal.τ).loc Cert.Reference13Ideal.main_arg8) = m ((c.tc : Thread Cert.Kernel13Ideal.nD Cert.Kernel13Ideal.τ).loc Cert.Kernel13Ideal.main_arg8)) →
    ∃ (v0 : (c : Dev Cert.Kernel13Ideal.nD) → Buf (Elt Ideal) ((c.tc : Thread Cert.Kernel13Ideal.nD Cert.Kernel13Ideal.τ).loc Cert.Kernel13Ideal.main_v19)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v19) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
          ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
          ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v36) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6)
          ∧ r.2.mem ((c.tc : Thread Cert.Reference13Ideal.nD Cert.Reference13Ideal.τ).loc Cert.Reference13Ideal.main_arg7) = m' ((c.tc : Thread Cert.Reference13Ideal.nD Cert.Reference13Ideal.τ).loc Cert.Reference13Ideal.main_arg7)
          ∧ r.2.mem ((c.tc : Thread Cert.Reference13Ideal.nD Cert.Reference13Ideal.τ).loc Cert.Reference13Ideal.main_arg8) = m' ((c.tc : Thread Cert.Reference13Ideal.nD Cert.Reference13Ideal.τ).loc Cert.Reference13Ideal.main_arg8))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v7) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
-- ==== Pre_finite.lean ====
abbrev S16384x4096 : Shape := ⟨2, ![16384, 4096]⟩
abbrev S4096x22528 : Shape := ⟨2, ![4096, 22528]⟩
abbrev S3x22528 : Shape := ⟨2, ![3, 22528]⟩
abbrev S_ : Shape := ⟨0, ![]⟩

class Facts : Prop where
  bitsLt_bf16_f32 : FTy.bits .bf16 < FTy.bits .f32
  bcast_S_S16384x4096 : S_.BroadcastsInDim S16384x4096 (![] : Fin 0 → Fin S16384x4096.rank)
  bcast_S_S4096x22528 : S_.BroadcastsInDim S4096x22528 (![] : Fin 0 → Fin S4096x22528.rank)
  bcast_S_S3x22528 : S_.BroadcastsInDim S3x22528 (![] : Fin 0 → Fin S3x22528.rank)

variable [Facts]

def fn {F : FTy → Type} [FloatOps F] (main_arg0 : FVec F S16384x4096 .bf16) (main_arg1 : FVec F S4096x22528 .bf16) (main_arg2 : FVec F S3x22528 .f32) : IVec S16384x4096 1 × IVec S4096x22528 1 × IVec S3x22528 1 :=
  let main_v0 : FVec F S16384x4096 .f32 := (extf .f32 · bitsLt_bf16_f32) main_arg0
  let main_v1 : FVec F S16384x4096 .f32 := Host.absf main_v0
  let main_cst : FVec F S_ .f32 := constant S_ .f32 0x7F800000#32
  let main_v2 : FVec F S16384x4096 .f32 := broadcastInDim S16384x4096 ![] bcast_S_S16384x4096 main_cst
  let main_v3 : IVec S16384x4096 1 := cmpf .olt main_v1 main_v2
  let main_v4 : FVec F S4096x22528 .f32 := (extf .f32 · bitsLt_bf16_f32) main_arg1
  let main_v5 : FVec F S4096x22528 .f32 := Host.absf main_v4
  let main_cst_0 : FVec F S_ .f32 := constant S_ .f32 0x7F800000#32
  let main_v6 : FVec F S4096x22528 .f32 := broadcastInDim S4096x22528 ![] bcast_S_S4096x22528 main_cst_0
  let main_v7 : IVec S4096x22528 1 := cmpf .olt main_v5 main_v6
  let main_v8 : FVec F S3x22528 .f32 := Host.absf main_arg2
  let main_cst_1 : FVec F S_ .f32 := constant S_ .f32 0x7F800000#32
  let main_v9 : FVec F S3x22528 .f32 := broadcastInDim S3x22528 ![] bcast_S_S3x22528 main_cst_1
  let main_v10 : IVec S3x22528 1 := cmpf .olt main_v8 main_v9
  (main_v3, main_v7, main_v10)
-- ==== Kernel.lean ====
abbrev S16384x4096 : Shape := ⟨2, ![16384, 4096]⟩
abbrev S4096x22528 : Shape := ⟨2, ![4096, 22528]⟩
abbrev S3x22528 : Shape := ⟨2, ![3, 22528]⟩
abbrev S16384x11264 : Shape := ⟨2, ![16384, 11264]⟩
abbrev S16x4096 : Shape := ⟨2, ![16, 4096]⟩
abbrev S1024x4096 : Shape := ⟨2, ![1024, 4096]⟩
abbrev S4096x512 : Shape := ⟨2, ![4096, 512]⟩
abbrev S3x512 : Shape := ⟨2, ![3, 512]⟩
abbrev S1024x512 : Shape := ⟨2, ![1024, 512]⟩
abbrev S1056x4096 : Shape := ⟨2, ![1056, 4096]⟩
abbrev S2x2x1056x256 : Shape := ⟨4, ![2, 2, 1056, 256]⟩
abbrev S4096x256 : Shape := ⟨2, ![4096, 256]⟩
abbrev S1056x256 : Shape := ⟨2, ![1056, 256]⟩
abbrev S1x1x1056x256 : Shape := ⟨4, ![1, 1, 1056, 256]⟩
abbrev S1x1x272x256 : Shape := ⟨4, ![1, 1, 272, 256]⟩
abbrev S272x256 : Shape := ⟨2, ![272, 256]⟩
abbrev S3x256 : Shape := ⟨2, ![3, 256]⟩
abbrev S1x256 : Shape := ⟨2, ![1, 256]⟩
abbrev S256x256 : Shape := ⟨2, ![256, 256]⟩

abbrev nBuf : Space → Nat
  | .hbm => 4
  | .vmem => 18
  | .smem => 0
  | _ => 0

abbrev bufTy : (tb : Table) → Fin (tcTables nBuf tb) → BufTy
  | .hbm, ⟨0, _⟩ => ⟨S16384x4096, .bf16⟩
  | .hbm, ⟨1, _⟩ => ⟨S4096x22528, .bf16⟩
  | .hbm, ⟨2, _⟩ => ⟨S3x22528, .f32⟩
  | .hbm, ⟨3, _⟩ => ⟨S16384x11264, .bf16⟩
  | .local _ .vmem, ⟨0, _⟩ => ⟨S16x4096, .bf16⟩
  | .local _ .vmem, ⟨1, _⟩ => ⟨S16x4096, .bf16⟩
  | .local _ .vmem, ⟨2, _⟩ => ⟨S1024x4096, .bf16⟩
  | .local _ .vmem, ⟨3, _⟩ => ⟨S1024x4096, .bf16⟩
  | .local _ .vmem, ⟨4, _⟩ => ⟨S16x4096, .bf16⟩
  | .local _ .vmem, ⟨5, _⟩ => ⟨S16x4096, .bf16⟩
  | .local _ .vmem, ⟨6, _⟩ => ⟨S4096x512, .bf16⟩
  | .local _ .vmem, ⟨7, _⟩ => ⟨S4096x512, .bf16⟩
  | .local _ .vmem, ⟨8, _⟩ => ⟨S4096x512, .bf16⟩
  | .local _ .vmem, ⟨9, _⟩ => ⟨S4096x512, .bf16⟩
  | .local _ .vmem, ⟨10, _⟩ => ⟨S3x512, .f32⟩
  | .local _ .vmem, ⟨11, _⟩ => ⟨S3x512, .f32⟩
  | .local _ .vmem, ⟨12, _⟩ => ⟨S3x512, .f32⟩
  | .local _ .vmem, ⟨13, _⟩ => ⟨S3x512, .f32⟩
  | .local _ .vmem, ⟨14, _⟩ => ⟨S1024x512, .bf16⟩
  | .local _ .vmem, ⟨15, _⟩ => ⟨S1024x512, .bf16⟩
  | .local _ .vmem, ⟨16, _⟩ => ⟨S1056x4096, .bf16⟩
  | .local _ .vmem, ⟨17, _⟩ => ⟨S2x2x1056x256, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 22], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi arg1 c22_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi arg1 c22_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S16x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S16384x4096 : Shape := ⟨2, ![16384, 4096]⟩
abbrev S4096x22528 : Shape := ⟨2, ![4096, 22528]⟩
abbrev S3x22528 : Shape := ⟨2, ![3, 22528]⟩
abbrev S2x8192x4096 : Shape := ⟨3, ![2, 8192, 4096]⟩
abbrev S2x8192x22528 : Shape := ⟨3, ![2, 8192, 22528]⟩
abbrev S2x1x22528 : Shape := ⟨3, ![2, 1, 22528]⟩
abbrev S_ : Shape := ⟨0, ![]⟩
abbrev S2x8191x22528 : Shape := ⟨3, ![2, 8191, 22528]⟩
abbrev S1x22528 : Shape := ⟨2, ![1, 22528]⟩
abbrev S22528 : Shape := ⟨1, ![22528]⟩
abbrev S1x1x22528 : Shape := ⟨3, ![1, 1, 22528]⟩
abbrev S2x8192x11264 : Shape := ⟨3, ![2, 8192, 11264]⟩
abbrev S16384x11264 : Shape := ⟨2, ![16384, 11264]⟩

abbrev nBuf : Space → Nat
  | .hbm => 45
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x22528, .bf16⟩
  | .hbm, ⟨2, _⟩ => ⟨S3x22528, .f32⟩
  | .hbm, ⟨3, _⟩ => ⟨S16384x4096, .f32⟩
  | .hbm, ⟨4, _⟩ => ⟨S2x8192x4096, .f32⟩
  | .hbm, ⟨5, _⟩ => ⟨S4096x22528, .f32⟩
  | .hbm, ⟨6, _⟩ => ⟨S2x8192x22528, .f32⟩
  | .hbm, ⟨7, _⟩ => ⟨S2x1x22528, .f32⟩
  | .hbm, ⟨8, _⟩ => ⟨S_, .f32⟩
  | .hbm, ⟨9, _⟩ => ⟨S2x1x22528, .f32⟩
  | .hbm, ⟨10, _⟩ => ⟨S2x8191x22528, .f32⟩
  | .hbm, ⟨11, _⟩ => ⟨S2x8192x22528, .f32⟩
  | .hbm, ⟨12, _⟩ => ⟨S2x8191x22528, .f32⟩
  | .hbm, ⟨13, _⟩ => ⟨S2x8192x22528, .f32⟩
  | .hbm, ⟨14, _⟩ => ⟨S1x22528, .f32⟩
  | .hbm, ⟨15, _⟩ => ⟨S22528, .f32⟩
  | .hbm, ⟨16, _⟩ => ⟨S1x1x22528, .f32⟩
  | .hbm, ⟨17, _⟩ => ⟨S2x8192x22528, .f32⟩
  | .hbm, ⟨18, _⟩ => ⟨S2x8192x22528, .f32⟩
  | .hbm, ⟨19, _⟩ => ⟨S1x22528, .f32⟩
  | .hbm, ⟨20, _⟩ => ⟨S22528, .f32⟩
  | .hbm, ⟨21, _⟩ => ⟨S1x1x22528, .f32⟩
  | .hbm, ⟨22, _⟩ => ⟨S2x8192x22528, .f32⟩
  | .hbm, ⟨23, _⟩ => ⟨S2x8192x22528, .f32⟩
  | .hbm, ⟨24, _⟩ => ⟨S2x8192x22528, .f32⟩
  | .hbm, ⟨25, _⟩ => ⟨S1x22528, .f32⟩
  | .hbm, ⟨26, _⟩ => ⟨S22528, .f32⟩
  | .hbm, ⟨27, _⟩ => ⟨S1x1x22528, .f32⟩
  | .hbm, ⟨28, _⟩ => ⟨S2x8192x22528, .f32⟩
  | .hbm, ⟨29, _⟩ => ⟨S2x8192x22528, .f32⟩
  | .hbm, ⟨30, _⟩ => ⟨S2x8192x22528, .f32⟩
  | .hbm, ⟨31, _⟩ => ⟨S2x8192x11264, .f32⟩
  | .hbm, ⟨32, _⟩ => ⟨S2x8192x11264, .f32⟩
  | .hbm, ⟨33, _⟩ => ⟨S2x8192x11264, .f32⟩
  | .hbm, ⟨34, _⟩ => ⟨S2x8192x11264, .f32⟩
  | .hbm, ⟨35, _⟩ => ⟨S_, .f32⟩
  | .hbm, ⟨36, _⟩ => ⟨S2x8192x11264, .f32⟩
  | .hbm, ⟨37, _⟩ => ⟨S2x8192x11264, .f32⟩
  | .hbm, ⟨38, _⟩ => ⟨S_, .f32⟩
  | .hbm, ⟨39, _⟩ => ⟨S2x8192x11264, .f32⟩
  | .hbm, ⟨40, _⟩ => ⟨S2x8192x11264, .f32⟩
  | .hbm, ⟨41, _⟩ => ⟨S2x8192x11264, .f32⟩
  | .hbm, ⟨42, _⟩ => ⟨S2x8192x11264, .f32⟩
  | .hbm, ⟨43, _⟩ => ⟨S16384x11264, .f32⟩
  | .hbm, ⟨44, _⟩ => ⟨S16384x11264, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel2.lean ====
abbrev S16384x11264 : Shape := ⟨2, ![16384, 11264]⟩
abbrev S11264x4096 : Shape := ⟨2, ![11264, 4096]⟩
abbrev S16384x4096 : Shape := ⟨2, ![16384, 4096]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x11264, .bf16⟩
  | .hbm, ⟨1, _⟩ => ⟨S11264x4096, .bf16⟩
  | .hbm, ⟨2, _⟩ => ⟨S16384x4096, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S16384x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S16384x11264 : Shape := ⟨2, ![16384, 11264]⟩
abbrev S11264x4096 : Shape := ⟨2, ![11264, 4096]⟩
abbrev S16384x4096 : Shape := ⟨2, ![16384, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16384x11264, .bf16⟩
  | .hbm, ⟨1, _⟩ => ⟨S11264x4096, .bf16⟩
  | .hbm, ⟨2, _⟩ => ⟨S16384x11264, .f32⟩
  | .hbm, ⟨3, _⟩ => ⟨S11264x4096, .f32⟩
  | .hbm, ⟨4, _⟩ => ⟨S16384x4096, .f32⟩
  | .hbm, ⟨5, _⟩ => ⟨S16384x4096, .bf16⟩
  | _, _ => ⟨S16384x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel3.lean ====
abbrev S16384x4096 : Shape := ⟨2, ![16384, 4096]⟩
abbrev S4096x11264 : Shape := ⟨2, ![4096, 11264]⟩
abbrev S16384x11264 : Shape := ⟨2, ![16384, 11264]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x11264, .bf16⟩
  | .hbm, ⟨2, _⟩ => ⟨S16384x11264, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S16384x4096 : Shape := ⟨2, ![16384, 4096]⟩
abbrev S4096x11264 : Shape := ⟨2, ![4096, 11264]⟩
abbrev S16384x11264 : Shape := ⟨2, ![16384, 11264]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x11264, .bf16⟩
  | .hbm, ⟨2, _⟩ => ⟨S16384x4096, .f32⟩
  | .hbm, ⟨3, _⟩ => ⟨S4096x11264, .f32⟩
  | .hbm, ⟨4, _⟩ => ⟨S16384x11264, .f32⟩
  | .hbm, ⟨5, _⟩ => ⟨S16384x11264, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel4.lean ====
abbrev S16384x1024 : Shape := ⟨2, ![16384, 1024]⟩
abbrev S16384x2048 : Shape := ⟨2, ![16384, 2048]⟩
abbrev S4096x4096 : Shape := ⟨2, ![4096, 4096]⟩
abbrev S16384x4096 : Shape := ⟨2, ![16384, 4096]⟩
abbrev S1024x1024 : Shape := ⟨2, ![1024, 1024]⟩
abbrev S1024x2048 : Shape := ⟨2, ![1024, 2048]⟩
abbrev S4096x512 : Shape := ⟨2, ![4096, 512]⟩
abbrev S1024x512 : Shape := ⟨2, ![1024, 512]⟩
abbrev S1024x4096 : Shape := ⟨2, ![1024, 4096]⟩

abbrev nBuf : Space → Nat
  | .hbm => 5
  | .vmem => 11
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .f32⟩
  | .hbm, ⟨3, _⟩ => ⟨S4096x4096, .bf16⟩
  | .hbm, ⟨4, _⟩ => ⟨S16384x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x2048, .f32⟩
  | .local _ .vmem, ⟨5, _⟩ => ⟨S1024x2048, .f32⟩
  | .local _ .vmem, ⟨6, _⟩ => ⟨S4096x512, .bf16⟩
  | .local _ .vmem, ⟨7, _⟩ => ⟨S4096x512, .bf16⟩
  | .local _ .vmem, ⟨8, _⟩ => ⟨S1024x512, .bf16⟩
  | .local _ .vmem, ⟨9, _⟩ => ⟨S1024x512, .bf16⟩
  | .local _ .vmem, ⟨10, _⟩ => ⟨S1024x4096, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S16384x1024 : Shape := ⟨2, ![16384, 1024]⟩
abbrev S16384x2048 : Shape := ⟨2, ![16384, 2048]⟩
abbrev S4096x4096 : Shape := ⟨2, ![4096, 4096]⟩
abbrev S16384x4096 : Shape := ⟨2, ![16384, 4096]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .f32⟩
  | .hbm, ⟨3, _⟩ => ⟨S4096x4096, .bf16⟩
  | .hbm, ⟨4, _⟩ => ⟨S16384x1024, .f32⟩
  | .hbm, ⟨5, _⟩ => ⟨S16384x1024, .f32⟩
  | .hbm, ⟨6, _⟩ => ⟨S16384x4096, .f32⟩
  | .hbm, ⟨7, _⟩ => ⟨S4096x4096, .f32⟩
  | .hbm, ⟨8, _⟩ => ⟨S16384x4096, .f32⟩
  | .hbm, ⟨9, _⟩ => ⟨S16384x4096, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel5.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .f32⟩
  | .hbm, ⟨2, _⟩ => ⟨S4096, .f32⟩
  | .hbm, ⟨3, _⟩ => ⟨S4096, .f32⟩
  | .hbm, ⟨4, _⟩ => ⟨S1x4096, .f32⟩
  | .hbm, ⟨5, _⟩ => ⟨S1x4096, .f32⟩
  | .hbm, ⟨6, _⟩ => ⟨S16384x4096, .f32⟩
  | .hbm, ⟨7, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S1x4096, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .bf16⟩
  | .local _ .vmem, ⟨9, _⟩ => ⟨S256x4096, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 39
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .f32⟩
  | .hbm, ⟨2, _⟩ => ⟨S4096, .f32⟩
  | .hbm, ⟨3, _⟩ => ⟨S4096, .f32⟩
  | .hbm, ⟨4, _⟩ => ⟨S_, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x4096, .f32⟩
  | .hbm, ⟨25, _⟩ => ⟨S16384x4096, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1, .f32⟩
  | .hbm, ⟨30, _⟩ => ⟨S16384x4096, .f32⟩
  | .hbm, ⟨31, _⟩ => ⟨S16384x4096, .f32⟩
  | .hbm, ⟨32, _⟩ => ⟨S1x4096, .f32⟩
  | .hbm, ⟨33, _⟩ => ⟨S16384x4096, .f32⟩
  | .hbm, ⟨34, _⟩ => ⟨S16384x4096, .f32⟩
  | .hbm, ⟨35, _⟩ => ⟨S1x4096, .f32⟩
  | .hbm, ⟨36, _⟩ => ⟨S16384x4096, .f32⟩
  | .hbm, ⟨37, _⟩ => ⟨S16384x4096, .f32⟩
  | .hbm, ⟨38, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Kernel6.lean ====
abbrev S2x8192x4096 : Shape := ⟨3, ![2, 8192, 4096]⟩
abbrev S4096 : Shape := ⟨1, ![4096]⟩
abbrev S16384x4096 : Shape := ⟨2, ![16384, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 8
  | .vmem => 8
  | .smem => 0
  | _ => 0

abbrev bufTy : (tb : Table) → Fin (tcTables nBuf tb) → BufTy
  | .hbm, ⟨0, _⟩ => ⟨S2x8192x4096, .f32⟩
  | .hbm, ⟨1, _⟩ => ⟨S4096, .f32⟩
  | .hbm, ⟨2, _⟩ => ⟨S4096, .f32⟩
  | .hbm, ⟨3, _⟩ => ⟨S16384x4096, .f32⟩
  | .hbm, ⟨4, _⟩ => ⟨S1x4096, .f32⟩
  | .hbm, ⟨5, _⟩ => ⟨S1x4096, .f32⟩
  | .hbm, ⟨6, _⟩ => ⟨S16384x4096, .f32⟩
  | .hbm, ⟨7, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .bf16⟩
  | .local _ .vmem, ⟨7, _⟩ => ⟨S256x4096, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S2x8192x4096 : Shape := ⟨3, ![2, 8192, 4096]⟩
abbrev S4096 : Shape := ⟨1, ![4096]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩
abbrev S16384x4096 : Shape := ⟨2, ![16384, 4096]⟩

abbrev nBuf : Space → Nat
  | .hbm => 34
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S4096, .f32⟩
  | .hbm, ⟨2, _⟩ => ⟨S4096, .f32⟩
  | .hbm, ⟨3, _⟩ => ⟨S_, .f32⟩
  | .hbm, ⟨4, _⟩ => ⟨S2x8192, .f32⟩
  | .hbm, ⟨5, _⟩ => ⟨S2x8192x1, .f32⟩
  | .hbm, ⟨6, _⟩ => ⟨S_, .f32⟩
  | .hbm, ⟨7, _⟩ => ⟨S2x8192x1, .f32⟩
  | .hbm, ⟨8, _⟩ => ⟨S2x8192x1, .f32⟩
  | .hbm, ⟨9, _⟩ => ⟨S2x8192x4096, .f32⟩
  | .hbm, ⟨10, _⟩ => ⟨S2x8192x4096, .f32⟩
  | .hbm, ⟨11, _⟩ => ⟨S2x8192x4096, .f32⟩
  | .hbm, ⟨12, _⟩ => ⟨S_, .f32⟩
  | .hbm, ⟨13, _⟩ => ⟨S2x8192, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S2x8192x4096, .f32⟩
  | .hbm, ⟨19, _⟩ => ⟨S2x8192x4096, .f32⟩
  | .hbm, ⟨20, _⟩ => ⟨S_, .f32⟩
  | .hbm, ⟨21, _⟩ => ⟨S2x8192x1, .f32⟩
  | .hbm, ⟨22, _⟩ => ⟨S2x8192x1, .f32⟩
  | .hbm, ⟨23, _⟩ => ⟨S2x8192x1, .f32⟩
  | .hbm, ⟨24, _⟩ => ⟨S2x8192x4096, .f32⟩
  | .hbm, ⟨25, _⟩ => ⟨S2x8192x4096, .f32⟩
  | .hbm, ⟨26, _⟩ => ⟨S1x1x4096, .f32⟩
  | .hbm, ⟨27, _⟩ => ⟨S2x8192x4096, .f32⟩
  | .hbm, ⟨28, _⟩ => ⟨S2x8192x4096, .f32⟩
  | .hbm, ⟨29, _⟩ => ⟨S1x1x4096, .f32⟩
  | .hbm, ⟨30, _⟩ => ⟨S2x8192x4096, .f32⟩
  | .hbm, ⟨31, _⟩ => ⟨S2x8192x4096, .f32⟩
  | .hbm, ⟨32, _⟩ => ⟨S16384x4096, .f32⟩
  | .hbm, ⟨33, _⟩ => ⟨S16384x4096, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Kernel8.lean ====
abbrev S2x8192x11264 : Shape := ⟨3, ![2, 8192, 11264]⟩
abbrev S3x1024 : Shape := ⟨2, ![3, 1024]⟩
abbrev S2x8192x1024 : Shape := ⟨3, ![2, 8192, 1024]⟩
abbrev S1x256x1024 : Shape := ⟨3, ![1, 256, 1024]⟩
abbrev S1x16x1024 : Shape := ⟨3, ![1, 16, 1024]⟩
abbrev S288x1024 : Shape := ⟨2, ![288, 1024]⟩
abbrev S16x1024 : Shape := ⟨2, ![16, 1024]⟩
abbrev S256x1024 : Shape := ⟨2, ![256, 1024]⟩
abbrev S144x256 : Shape := ⟨2, ![144, 256]⟩
abbrev S3x256 : Shape := ⟨2, ![3, 256]⟩
abbrev S1x256 : Shape := ⟨2, ![1, 256]⟩
abbrev S128x256 : Shape := ⟨2, ![128, 256]⟩
abbrev S1x128x256 : Shape := ⟨3, ![1, 128, 256]⟩

abbrev nBuf : Space → Nat
  | .hbm => 3
  | .vmem => 18
  | .smem => 0
  | _ => 0

abbrev bufTy : (tb : Table) → Fin (tcTables nBuf tb) → BufTy
  | .hbm, ⟨0, _⟩ => ⟨S2x8192x11264, .bf16⟩
  | .hbm, ⟨1, _⟩ => ⟨S3x1024, .f32⟩
  | .hbm, ⟨2, _⟩ => ⟨S2x8192x1024, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x16x1024, .bf16⟩
  | .local _ .vmem, ⟨3, _⟩ => ⟨S1x16x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x16x1024, .bf16⟩
  | .local _ .vmem, ⟨7, _⟩ => ⟨S1x16x1024, .bf16⟩
  | .local _ .vmem, ⟨8, _⟩ => ⟨S1x16x1024, .bf16⟩
  | .local _ .vmem, ⟨9, _⟩ => ⟨S1x16x1024, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x16x1024, .bf16⟩
  | .local _ .vmem, ⟨13, _⟩ => ⟨S1x16x1024, .bf16⟩
  | .local _ .vmem, ⟨14, _⟩ => ⟨S3x1024, .f32⟩
  | .local _ .vmem, ⟨15, _⟩ => ⟨S1x256x1024, .bf16⟩
  | .local _ .vmem, ⟨16, _⟩ => ⟨S1x256x1024, .bf16⟩
  | .local _ .vmem, ⟨17, _⟩ => ⟨S288x1024, .f32⟩
  | _, _ => ⟨S2x8192x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c9_i32 : BitVec 32 := 9#32
  let c0_i32_0 : BitVec 32 := 0#32
  ![arg0.toNat, v2.toNat, c9_i32.toNat]

def cc0_transform_2 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c511_i32 : BitVec 32 := 511#32
  let v2 : BitVec 32 := Scalar.minsi v1 c511_i32
  let c9_i32 : BitVec 32 := 9#32
  let c0_i32 : BitVec 32 := 0#32
  ![arg0.toNat, v2.toNat, c9_i32.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c10_i32 : BitVec 32 := 10#32
  let c0_i32_0 : BitVec 32 := 0#32
  ![arg0.toNat, v2.toNat, c10_i32.toNat]

def cc0_transform_5 (i : grid0.Coords) : Fin 3 → Nat :=
  let arg0 : BitVec 32 := BitVec.ofNat 32 (i 0).val
  let arg1 : BitVec 32 := BitVec.ofNat 32 (i 1).val
  let c10_i32 : BitVec 32 := 10#32
  let c0_i32 : BitVec 32 := 0#32
  ![arg0.toNat, arg1.toNat, c10_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c511_i32 : BitVec 32 := 511#32
  let v2 : BitVec 32 := Scalar.minsi v1 c511_i32
  let c10_i32 : BitVec 32 := 10#32
  let c0_i32 : BitVec 32 := 0#32
  ![arg0.toNat, v2.toNat, c10_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S3x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference8Ideal.lean ====
abbrev S2x8192x11264 : Shape := ⟨3, ![2, 8192, 11264]⟩
abbrev S3x1024 : Shape := ⟨2, ![3, 1024]⟩
abbrev S2x8192x3072 : Shape := ⟨3, ![2, 8192, 3072]⟩
abbrev S2x8192x1024 : Shape := ⟨3, ![2, 8192, 1024]⟩
abbrev S2x1x1024 : Shape := ⟨3, ![2, 1, 1024]⟩
abbrev S_ : Shape := ⟨0, ![]⟩
abbrev S2x8191x1024 : Shape := ⟨3, ![2, 8191, 1024]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 34
  | .vmem => 0
  | .smem => 0
  | _ => 0

abbrev bufTy : (tb : Table) → Fin (tcTables nBuf tb) → BufTy
  | .hbm, ⟨0, _⟩ => ⟨S2x8192x11264, .bf16⟩
  | .hbm, ⟨1, _⟩ => ⟨S3x1024, .f32⟩
  | .hbm, ⟨2, _⟩ => ⟨S2x8192x3072, .bf16⟩
  | .hbm, ⟨3, _⟩ => ⟨S2x8192x3072, .f32⟩
  | .hbm, ⟨4, _⟩ => ⟨S2x8192x1024, .f32⟩
  | .hbm, ⟨5, _⟩ => ⟨S2x8192x1024, .f32⟩
  | .hbm, ⟨6, _⟩ => ⟨S2x8192x1024, .f32⟩
  | .hbm, ⟨7, _⟩ => ⟨S2x8192x1024, .f32⟩
  | .hbm, ⟨8, _⟩ => ⟨S2x1x1024, .f32⟩
  | .hbm, ⟨9, _⟩ => ⟨S_, .f32⟩
  | .hbm, ⟨10, _⟩ => ⟨S2x1x1024, .f32⟩
  | .hbm, ⟨11, _⟩ => ⟨S2x8191x1024, .f32⟩
  | .hbm, ⟨12, _⟩ => ⟨S2x8192x1024, .f32⟩
  | .hbm, ⟨13, _⟩ => ⟨S2x8191x1024, .f32⟩
  | .hbm, ⟨14, _⟩ => ⟨S2x8192x1024, .f32⟩
  | .hbm, ⟨15, _⟩ => ⟨S1x1024, .f32⟩
  | .hbm, ⟨16, _⟩ => ⟨S1024, .f32⟩
  | .hbm, ⟨17, _⟩ => ⟨S1x1x1024, .f32⟩
  | .hbm, ⟨18, _⟩ => ⟨S2x8192x1024, .f32⟩
  | .hbm, ⟨19, _⟩ => ⟨S2x8192x1024, .f32⟩
  | .hbm, ⟨20, _⟩ => ⟨S1x1024, .f32⟩
  | .hbm, ⟨21, _⟩ => ⟨S1024, .f32⟩
  | .hbm, ⟨22, _⟩ => ⟨S1x1x1024, .f32⟩
  | .hbm, ⟨23, _⟩ => ⟨S2x8192x1024, .f32⟩
  | .hbm, ⟨24, _⟩ => ⟨S2x8192x1024, .f32⟩
  | .hbm, ⟨25, _⟩ => ⟨S2x8192x1024, .f32⟩
  | .hbm, ⟨26, _⟩ => ⟨S1x1024, .f32⟩
  | .hbm, ⟨27, _⟩ => ⟨S1024, .f32⟩
  | .hbm, ⟨28, _⟩ => ⟨S1x1x1024, .f32⟩
  | .hbm, ⟨29, _⟩ => ⟨S2x8192x1024, .f32⟩
  | .hbm, ⟨30, _⟩ => ⟨S2x8192x1024, .f32⟩
  | .hbm, ⟨31, _⟩ => ⟨S2x8192x1024, .f32⟩
  | .hbm, ⟨32, _⟩ => ⟨S2x8192x1024, .f32⟩
  | .hbm, ⟨33, _⟩ => ⟨S2x8192x1024, .bf16⟩
  | _, _ => ⟨S2x8192x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩

abbrev nD : Nat := 1
abbrev τ : Topo := Topo.v7x

variable {F : FTy → Type} [FloatOps F]
-- ==== Kernel9.lean ====
abbrev S2x8192x11264 : Shape := ⟨3, ![2, 8192, 11264]⟩
abbrev S3x6144 : Shape := ⟨2, ![3, 6144]⟩
abbrev S2x8192x2048 : Shape := ⟨3, ![2, 8192, 2048]⟩
abbrev S1x16x6144 : Shape := ⟨3, ![1, 16, 6144]⟩
abbrev S1x256x6144 : Shape := ⟨3, ![1, 256, 6144]⟩
abbrev S1x256x2048 : Shape := ⟨3, ![1, 256, 2048]⟩
abbrev S288x6144 : Shape := ⟨2, ![288, 6144]⟩
abbrev S16x6144 : Shape := ⟨2, ![16, 6144]⟩
abbrev S256x6144 : Shape := ⟨2, ![256, 6144]⟩
abbrev S144x256 : Shape := ⟨2, ![144, 256]⟩
abbrev S3x256 : Shape := ⟨2, ![3, 256]⟩
abbrev S1x256 : Shape := ⟨2, ![1, 256]⟩
abbrev S128x256 : Shape := ⟨2, ![128, 256]⟩
abbrev S1x128x256 : Shape := ⟨3, ![1, 128, 256]⟩

abbrev nBuf : Space → Nat
  | .hbm => 5
  | .vmem => 14
  | .smem => 0
  | _ => 0

abbrev bufTy : (tb : Table) → Fin (tcTables nBuf tb) → BufTy
  | .hbm, ⟨0, _⟩ => ⟨S2x8192x11264, .bf16⟩
  | .hbm, ⟨1, _⟩ => ⟨S3x6144, .f32⟩
  | .hbm, ⟨2, _⟩ => ⟨S2x8192x2048, .f32⟩
  | .hbm, ⟨3, _⟩ => ⟨S2x8192x2048, .f32⟩
  | .hbm, ⟨4, _⟩ => ⟨S2x8192x2048, .f32⟩
  | .local _ .vmem, ⟨0, _⟩ => ⟨S1x16x6144, .bf16⟩
  | .local _ .vmem, ⟨1, _⟩ => ⟨S1x16x6144, .bf16⟩
  | .local _ .vmem, ⟨2, _⟩ => ⟨S1x256x6144, .bf16⟩
  | .local _ .vmem, ⟨3, _⟩ => ⟨S1x256x6144, .bf16⟩
  | .local _ .vmem, ⟨4, _⟩ => ⟨S1x16x6144, .bf16⟩
  | .local _ .vmem, ⟨5, _⟩ => ⟨S1x16x6144, .bf16⟩
  | .local _ .vmem, ⟨6, _⟩ => ⟨S3x6144, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S288x6144, .f32⟩
  | _, _ => ⟨S2x8192x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x6144 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S3x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference9Ideal.lean ====
abbrev S2x8192x11264 : Shape := ⟨3, ![2, 8192, 11264]⟩
abbrev S3x6144 : Shape := ⟨2, ![3, 6144]⟩
abbrev S2x8192x6144 : Shape := ⟨3, ![2, 8192, 6144]⟩
abbrev S2x1x6144 : Shape := ⟨3, ![2, 1, 6144]⟩
abbrev S_ : Shape := ⟨0, ![]⟩
abbrev S2x8191x6144 : Shape := ⟨3, ![2, 8191, 6144]⟩
abbrev S1x6144 : Shape := ⟨2, ![1, 6144]⟩
abbrev S6144 : Shape := ⟨1, ![6144]⟩
abbrev S1x1x6144 : Shape := ⟨3, ![1, 1, 6144]⟩
abbrev S2x8192x2048 : Shape := ⟨3, ![2, 8192, 2048]⟩

abbrev nBuf : Space → Nat
  | .hbm => 31
  | .vmem => 0
  | .smem => 0
  | _ => 0

abbrev bufTy : (tb : Table) → Fin (tcTables nBuf tb) → BufTy
  | .hbm, ⟨0, _⟩ => ⟨S2x8192x11264, .bf16⟩
  | .hbm, ⟨1, _⟩ => ⟨S3x6144, .f32⟩
  | .hbm, ⟨2, _⟩ => ⟨S2x8192x6144, .bf16⟩
  | .hbm, ⟨3, _⟩ => ⟨S2x8192x6144, .f32⟩
  | .hbm, ⟨4, _⟩ => ⟨S2x1x6144, .f32⟩
  | .hbm, ⟨5, _⟩ => ⟨S_, .f32⟩
  | .hbm, ⟨6, _⟩ => ⟨S2x1x6144, .f32⟩
  | .hbm, ⟨7, _⟩ => ⟨S2x8191x6144, .f32⟩
  | .hbm, ⟨8, _⟩ => ⟨S2x8192x6144, .f32⟩
  | .hbm, ⟨9, _⟩ => ⟨S2x8191x6144, .f32⟩
  | .hbm, ⟨10, _⟩ => ⟨S2x8192x6144, .f32⟩
  | .hbm, ⟨11, _⟩ => ⟨S1x6144, .f32⟩
  | .hbm, ⟨12, _⟩ => ⟨S6144, .f32⟩
  | .hbm, ⟨13, _⟩ => ⟨S1x1x6144, .f32⟩
  | .hbm, ⟨14, _⟩ => ⟨S2x8192x6144, .f32⟩
  | .hbm, ⟨15, _⟩ => ⟨S2x8192x6144, .f32⟩
  | .hbm, ⟨16, _⟩ => ⟨S1x6144, .f32⟩
  | .hbm, ⟨17, _⟩ => ⟨S6144, .f32⟩
  | .hbm, ⟨18, _⟩ => ⟨S1x1x6144, .f32⟩
  | .hbm, ⟨19, _⟩ => ⟨S2x8192x6144, .f32⟩
  | .hbm, ⟨20, _⟩ => ⟨S2x8192x6144, .f32⟩
  | .hbm, ⟨21, _⟩ => ⟨S2x8192x6144, .f32⟩
  | .hbm, ⟨22, _⟩ => ⟨S1x6144, .f32⟩
  | .hbm, ⟨23, _⟩ => ⟨S6144, .f32⟩
  | .hbm, ⟨24, _⟩ => ⟨S1x1x6144, .f32⟩
  | .hbm, ⟨25, _⟩ => ⟨S2x8192x6144, .f32⟩
  | .hbm, ⟨26, _⟩ => ⟨S2x8192x6144, .f32⟩
  | .hbm, ⟨27, _⟩ => ⟨S2x8192x6144, .f32⟩
  | .hbm, ⟨28, _⟩ => ⟨S2x8192x2048, .f32⟩
  | .hbm, ⟨29, _⟩ => ⟨S2x8192x2048, .f32⟩
  | .hbm, ⟨30, _⟩ => ⟨S2x8192x2048, .f32⟩
  | _, _ => ⟨S2x8192x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩

abbrev nD : Nat := 1
abbrev τ : Topo := Topo.v7x

variable {F : FTy → Type} [FloatOps F]
-- ==== Kernel13.lean ====
abbrev S8192x33 : Shape := ⟨2, ![8192, 33]⟩
abbrev S8192x1 : Shape := ⟨2, ![8192, 1]⟩
abbrev S33x64 : Shape := ⟨2, ![33, 64]⟩
abbrev S64 : Shape := ⟨1, ![64]⟩
abbrev S64x64 : Shape := ⟨2, ![64, 64]⟩
abbrev S64x8192 : Shape := ⟨2, ![64, 8192]⟩
abbrev S2x2x2048 : Shape := ⟨3, ![2, 2, 2048]⟩
abbrev S_ : Shape := ⟨0, ![]⟩
abbrev S8192x40 : Shape := ⟨2, ![8192, 40]⟩
abbrev S1x40 : Shape := ⟨2, ![1, 40]⟩
abbrev S8191x40 : Shape := ⟨2, ![8191, 40]⟩
abbrev S16384x40 : Shape := ⟨2, ![16384, 40]⟩
abbrev S1x1 : Shape := ⟨2, ![1, 1]⟩
abbrev S8191x1 : Shape := ⟨2, ![8191, 1]⟩
abbrev S16384x1 : Shape := ⟨2, ![16384, 1]⟩
abbrev S40x64 : Shape := ⟨2, ![40, 64]⟩
abbrev S64x2x2x2048 : Shape := ⟨4, ![64, 2, 2, 2048]⟩
abbrev S2x64x2x2048 : Shape := ⟨4, ![2, 64, 2, 2048]⟩
abbrev S2x64x4096 : Shape := ⟨3, ![2, 64, 4096]⟩
abbrev S2x1x4096 : Shape := ⟨3, ![2, 1, 4096]⟩
abbrev S1x64 : Shape := ⟨2, ![1, 64]⟩
abbrev S16384x4096 : Shape := ⟨2, ![16384, 4096]⟩
abbrev S512x40 : Shape := ⟨2, ![512, 40]⟩
abbrev S512x1 : Shape := ⟨2, ![512, 1]⟩
abbrev S1x64x4096 : Shape := ⟨3, ![1, 64, 4096]⟩
abbrev S1x1x4096 : Shape := ⟨3, ![1, 1, 4096]⟩
abbrev S512x4096 : Shape := ⟨2, ![512, 4096]⟩
abbrev S512x64 : Shape := ⟨2, ![512, 64]⟩
abbrev S64x4096 : Shape := ⟨2, ![64, 4096]⟩
abbrev S1x4096 : Shape := ⟨2, ![1, 4096]⟩

abbrev nBuf : Space → Nat
  | .hbm => 33
  | .vmem => 15
  | .smem => 0
  | _ => 0

abbrev bufTy : (tb : Table) → Fin (tcTables nBuf tb) → BufTy
  | .hbm, ⟨0, _⟩ => ⟨S8192x33, .f32⟩
  | .hbm, ⟨1, _⟩ => ⟨S8192x1, .f32⟩
  | .hbm, ⟨2, _⟩ => ⟨S33x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x8192, .f32⟩
  | .hbm, ⟨7, _⟩ => ⟨S64, .f32⟩
  | .hbm, ⟨8, _⟩ => ⟨S2x2x2048, .f32⟩
  | .hbm, ⟨9, _⟩ => ⟨S_, .i32⟩
  | .hbm, ⟨10, _⟩ => ⟨S_, .f32⟩
  | .hbm, ⟨11, _⟩ => ⟨S8192x40, .f32⟩
  | .hbm, ⟨12, _⟩ => ⟨S1x40, .f32⟩
  | .hbm, ⟨13, _⟩ => ⟨S8191x40, .f32⟩
  | .hbm, ⟨14, _⟩ => ⟨S8191x40, .f32⟩
  | .hbm, ⟨15, _⟩ => ⟨S16384x40, .f32⟩
  | .hbm, ⟨16, _⟩ => ⟨S1x1, .f32⟩
  | .hbm, ⟨17, _⟩ => ⟨S8191x1, .f32⟩
  | .hbm, ⟨18, _⟩ => ⟨S8191x1, .f32⟩
  | .hbm, ⟨19, _⟩ => ⟨S16384x1, .f32⟩
  | .hbm, ⟨20, _⟩ => ⟨S_, .i32⟩
  | .hbm, ⟨21, _⟩ => ⟨S_, .f32⟩
  | .hbm, ⟨22, _⟩ => ⟨S40x64, .f32⟩
  | .hbm, ⟨23, _⟩ => ⟨S64x2x2x2048, .f32⟩
  | .hbm, ⟨24, _⟩ => ⟨S2x64x2x2048, .f32⟩
  | .hbm, ⟨25, _⟩ => ⟨S2x64x4096, .f32⟩
  | .hbm, ⟨26, _⟩ => ⟨S2x2x2048, .f32⟩
  | .hbm, ⟨27, _⟩ => ⟨S2x2x2048, .f32⟩
  | .hbm, ⟨28, _⟩ => ⟨S2x1x4096, .f32⟩
  | .hbm, ⟨29, _⟩ => ⟨S1x64, .f32⟩
  | .hbm, ⟨30, _⟩ => ⟨S1x64, .f32⟩
  | .hbm, ⟨31, _⟩ => ⟨S1x64, .f32⟩
  | .hbm, ⟨32, _⟩ => ⟨S16384x4096, .f32⟩
  | .local _ .vmem, ⟨0, _⟩ => ⟨S512x40, .f32⟩
  | .local _ .vmem, ⟨1, _⟩ => ⟨S512x40, .f32⟩
  | .local _ .vmem, ⟨2, _⟩ => ⟨S512x1, .f32⟩
  | .local _ .vmem, ⟨3, _⟩ => ⟨S512x1, .f32⟩
  | .local _ .vmem, ⟨4, _⟩ => ⟨S40x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S1x64, .f32⟩
  | .local _ .vmem, ⟨9, _⟩ => ⟨S1x64x4096, .f32⟩
  | .local _ .vmem, ⟨10, _⟩ => ⟨S1x64x4096, .f32⟩
  | .local _ .vmem, ⟨11, _⟩ => ⟨S1x1x4096, .f32⟩
  | .local _ .vmem, ⟨12, _⟩ => ⟨S1x1x4096, .f32⟩
  | .local _ .vmem, ⟨13, _⟩ => ⟨S512x4096, .f32⟩
  | .local _ .vmem, ⟨14, _⟩ => ⟨S512x4096, .f32⟩
  | _, _ => ⟨S8192x33, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_0 : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x40 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S40x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference13Ideal.lean ====
abbrev S8192x33 : Shape := ⟨2, ![8192, 33]⟩
abbrev S8192x1 : Shape := ⟨2, ![8192, 1]⟩
abbrev S33x64 : Shape := ⟨2, ![33, 64]⟩
abbrev S64 : Shape := ⟨1, ![64]⟩
abbrev S64x64 : Shape := ⟨2, ![64, 64]⟩
abbrev S64x8192 : Shape := ⟨2, ![64, 8192]⟩
abbrev S2x2x2048 : Shape := ⟨3, ![2, 2, 2048]⟩
abbrev S8192x64 : Shape := ⟨2, ![8192, 64]⟩
abbrev S1x64 : Shape := ⟨2, ![1, 64]⟩
abbrev S8192x8192 : Shape := ⟨2, ![8192, 8192]⟩
abbrev S8192x2x2x2048 : Shape := ⟨4, ![8192, 2, 2, 2048]⟩
abbrev S8192x1x1x1 : Shape := ⟨4, ![8192, 1, 1, 1]⟩
abbrev S1x2x2x2048 : Shape := ⟨4, ![1, 2, 2, 2048]⟩
abbrev S8192x2x1x2048 : Shape := ⟨4, ![8192, 2, 1, 2048]⟩
abbrev S8192x2x2048 : Shape := ⟨3, ![8192, 2, 2048]⟩
abbrev S1x2x2048 : Shape := ⟨3, ![1, 2, 2048]⟩
abbrev S_ : Shape := ⟨0, ![]⟩
abbrev S8191x2x2048 : Shape := ⟨3, ![8191, 2, 2048]⟩
abbrev S16384x2x2048 : Shape := ⟨3, ![16384, 2, 2048]⟩
abbrev S16384x4096 : Shape := ⟨2, ![16384, 4096]⟩

abbrev nBuf : Space → Nat
  | .hbm => 47
  | .vmem => 0
  | .smem => 0
  | _ => 0

abbrev bufTy : (tb : Table) → Fin (tcTables nBuf tb) → BufTy
  | .hbm, ⟨0, _⟩ => ⟨S8192x33, .f32⟩
  | .hbm, ⟨1, _⟩ => ⟨S8192x1, .f32⟩
  | .hbm, ⟨2, _⟩ => ⟨S33x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x8192, .f32⟩
  | .hbm, ⟨7, _⟩ => ⟨S64, .f32⟩
  | .hbm, ⟨8, _⟩ => ⟨S2x2x2048, .f32⟩
  | .hbm, ⟨9, _⟩ => ⟨S8192x64, .f32⟩
  | .hbm, ⟨10, _⟩ => ⟨S1x64, .f32⟩
  | .hbm, ⟨11, _⟩ => ⟨S8192x64, .f32⟩
  | .hbm, ⟨12, _⟩ => ⟨S8192x64, .f32⟩
  | .hbm, ⟨13, _⟩ => ⟨S1x64, .f32⟩
  | .hbm, ⟨14, _⟩ => ⟨S8192x64, .f32⟩
  | .hbm, ⟨15, _⟩ => ⟨S8192x64, .f32⟩
  | .hbm, ⟨16, _⟩ => ⟨S8192x64, .f32⟩
  | .hbm, ⟨17, _⟩ => ⟨S8192x64, .f32⟩
  | .hbm, ⟨18, _⟩ => ⟨S1x64, .f32⟩
  | .hbm, ⟨19, _⟩ => ⟨S8192x64, .f32⟩
  | .hbm, ⟨20, _⟩ => ⟨S8192x64, .f32⟩
  | .hbm, ⟨21, _⟩ => ⟨S1x64, .f32⟩
  | .hbm, ⟨22, _⟩ => ⟨S8192x64, .f32⟩
  | .hbm, ⟨23, _⟩ => ⟨S8192x64, .f32⟩
  | .hbm, ⟨24, _⟩ => ⟨S8192x64, .f32⟩
  | .hbm, ⟨25, _⟩ => ⟨S8192x8192, .f32⟩
  | .hbm, ⟨26, _⟩ => ⟨S8192x2x2x2048, .f32⟩
  | .hbm, ⟨27, _⟩ => ⟨S8192x1x1x1, .f32⟩
  | .hbm, ⟨28, _⟩ => ⟨S8192x1x1x1, .f32⟩
  | .hbm, ⟨29, _⟩ => ⟨S2x2x2048, .f32⟩
  | .hbm, ⟨30, _⟩ => ⟨S1x2x2x2048, .f32⟩
  | .hbm, ⟨31, _⟩ => ⟨S8192x2x2x2048, .f32⟩
  | .hbm, ⟨32, _⟩ => ⟨S8192x2x2x2048, .f32⟩
  | .hbm, ⟨33, _⟩ => ⟨S8192x2x2x2048, .f32⟩
  | .hbm, ⟨34, _⟩ => ⟨S8192x2x2x2048, .f32⟩
  | .hbm, ⟨35, _⟩ => ⟨S8192x2x2x2048, .f32⟩
  | .hbm, ⟨36, _⟩ => ⟨S8192x2x1x2048, .f32⟩
  | .hbm, ⟨37, _⟩ => ⟨S8192x2x2048, .f32⟩
  | .hbm, ⟨38, _⟩ => ⟨S8192x2x1x2048, .f32⟩
  | .hbm, ⟨39, _⟩ => ⟨S8192x2x2048, .f32⟩
  | .hbm, ⟨40, _⟩ => ⟨S1x2x2048, .f32⟩
  | .hbm, ⟨41, _⟩ => ⟨S_, .f32⟩
  | .hbm, ⟨42, _⟩ => ⟨S1x2x2048, .f32⟩
  | .hbm, ⟨43, _⟩ => ⟨S8191x2x2048, .f32⟩
  | .hbm, ⟨44, _⟩ => ⟨S8191x2x2048, .f32⟩
  | .hbm, ⟨45, _⟩ => ⟨S16384x2x2048, .f32⟩
  | .hbm, ⟨46, _⟩ => ⟨S16384x4096, .f32⟩
  | _, _ => ⟨S8192x33, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Kernel14.lean ====
abbrev S2x4096x11264 : Shape := ⟨3, ![2, 4096, 11264]⟩
abbrev S4096x11264 : Shape := ⟨2, ![4096, 11264]⟩
abbrev S1x4096x256 : Shape := ⟨3, ![1, 4096, 256]⟩
abbrev S4096x256 : Shape := ⟨2, ![4096, 256]⟩

abbrev nBuf : Space → Nat
  | .hbm => 2
  | .vmem => 4
  | .smem => 0
  | _ => 0

abbrev bufTy : (tb : Table) → Fin (tcTables nBuf tb) → BufTy
  | .hbm, ⟨0, _⟩ => ⟨S2x4096x11264, .f32⟩
  | .hbm, ⟨1, _⟩ => ⟨S4096x11264, .bf16⟩
  | .local _ .vmem, ⟨0, _⟩ => ⟨S1x4096x256, .f32⟩
  | .local _ .vmem, ⟨1, _⟩ => ⟨S1x4096x256, .f32⟩
  | .local _ .vmem, ⟨2, _⟩ => ⟨S4096x256, .bf16⟩
  | .local _ .vmem, ⟨3, _⟩ => ⟨S4096x256, .bf16⟩
  | _, _ => ⟨S2x4096x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![1, 44], ![false, false]⟩

def cc0_transform_0 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.addi arg1 c20_i32
  let c44_i32 : BitVec 32 := 44#32
  let c0_i32 : BitVec 32 := 0#32
  let v1 : BitVec 1 := Scalar.cmpi .eq c44_i32 c0_i32
  let c1_i32 : BitVec 32 := 1#32
  let v2 : BitVec 32 := Scalar.select v1 c1_i32 c44_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  let c0_i32_5 : BitVec 32 := 0#32
  ![c0_i32_3.toNat, c0_i32_4.toNat, v10.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]
-- ==== Reference14Ideal.lean ====
abbrev S2x4096x11264 : Shape := ⟨3, ![2, 4096, 11264]⟩
abbrev S1x4096x6144 : Shape := ⟨3, ![1, 4096, 6144]⟩
abbrev S4096x6144 : Shape := ⟨2, ![4096, 6144]⟩
abbrev S1x4096x5120 : Shape := ⟨3, ![1, 4096, 5120]⟩
abbrev S4096x5120 : Shape := ⟨2, ![4096, 5120]⟩
abbrev S4096x11264 : Shape := ⟨2, ![4096, 11264]⟩

abbrev nBuf : Space → Nat
  | .hbm => 7
  | .vmem => 0
  | .smem => 0
  | _ => 0

abbrev bufTy : (tb : Table) → Fin (tcTables nBuf tb) → BufTy
  | .hbm, ⟨0, _⟩ => ⟨S2x4096x11264, .f32⟩
  | .hbm, ⟨1, _⟩ => ⟨S1x4096x6144, .f32⟩
  | .hbm, ⟨2, _⟩ => ⟨S4096x6144, .f32⟩
  | .hbm, ⟨3, _⟩ => ⟨S1x4096x5120, .f32⟩
  | .hbm, ⟨4, _⟩ => ⟨S4096x5120, .f32⟩
  | .hbm, ⟨5, _⟩ => ⟨S4096x11264, .f32⟩
  | .hbm, ⟨6, _⟩ => ⟨S4096x11264, .bf16⟩
  | _, _ => ⟨S2x4096x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩

abbrev nD : Nat := 1
abbrev τ : Topo := Topo.v7x

variable {F : FTy → Type} [FloatOps F]
-- ==== Kernel15.lean ====
abbrev S2x4096x4096 : Shape := ⟨3, ![2, 4096, 4096]⟩
abbrev S4096x4096 : Shape := ⟨2, ![4096, 4096]⟩
abbrev S1x4096x256 : Shape := ⟨3, ![1, 4096, 256]⟩
abbrev S4096x256 : Shape := ⟨2, ![4096, 256]⟩

abbrev nBuf : Space → Nat
  | .hbm => 2
  | .vmem => 4
  | .smem => 0
  | _ => 0

abbrev bufTy : (tb : Table) → Fin (tcTables nBuf tb) → BufTy
  | .hbm, ⟨0, _⟩ => ⟨S2x4096x4096, .f32⟩
  | .hbm, ⟨1, _⟩ => ⟨S4096x4096, .bf16⟩
  | .local _ .vmem, ⟨0, _⟩ => ⟨S1x4096x256, .f32⟩
  | .local _ .vmem, ⟨1, _⟩ => ⟨S1x4096x256, .f32⟩
  | .local _ .vmem, ⟨2, _⟩ => ⟨S4096x256, .bf16⟩
  | .local _ .vmem, ⟨3, _⟩ => ⟨S4096x256, .bf16⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![1, 16], ![false, false]⟩

def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg1 c16_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let v17 : BitVec 32 := Scalar.muli v16 c16_i32_4
  let c16_i32_5 : BitVec 32 := 16#32
  let c0_i32_6 : BitVec 32 := 0#32
  let v18 : BitVec 1 := Scalar.cmpi .eq c16_i32_5 c0_i32_6
  let c1_i32_7 : BitVec 32 := 1#32
  let v19 : BitVec 32 := Scalar.select v18 c1_i32_7 c16_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let v28 : BitVec 32 := Scalar.addi v17 v27
  let c15_i32 : BitVec 32 := 15#32
  let v29 : BitVec 32 := Scalar.minsi v28 c15_i32
  let c0_i32_11 : BitVec 32 := 0#32
  let c0_i32_12 : BitVec 32 := 0#32
  let c0_i32_13 : BitVec 32 := 0#32
  ![c0_i32_11.toNat, c0_i32_12.toNat, v29.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]
-- ==== Reference15Ideal.lean ====
abbrev S2x4096x4096 : Shape := ⟨3, ![2, 4096, 4096]⟩
abbrev S1x4096x4096 : Shape := ⟨3, ![1, 4096, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S1x4096x4096, .f32⟩
  | .hbm, ⟨2, _⟩ => ⟨S4096x4096, .f32⟩
  | .hbm, ⟨3, _⟩ => ⟨S4096x4096, .bf16⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Kernel16.lean ====
abbrev S2x4096x22016 : Shape := ⟨3, ![2, 4096, 22016]⟩
abbrev S4096x22528 : Shape := ⟨2, ![4096, 22528]⟩
abbrev S1x4096x256 : Shape := ⟨3, ![1, 4096, 256]⟩
abbrev S4096x256 : Shape := ⟨2, ![4096, 256]⟩

abbrev nBuf : Space → Nat
  | .hbm => 2
  | .vmem => 4
  | .smem => 0
  | _ => 0

abbrev bufTy : (tb : Table) → Fin (tcTables nBuf tb) → BufTy
  | .hbm, ⟨0, _⟩ => ⟨S2x4096x22016, .f32⟩
  | .hbm, ⟨1, _⟩ => ⟨S4096x22528, .bf16⟩
  | .local _ .vmem, ⟨0, _⟩ => ⟨S1x4096x256, .f32⟩
  | .local _ .vmem, ⟨1, _⟩ => ⟨S1x4096x256, .f32⟩
  | .local _ .vmem, ⟨2, _⟩ => ⟨S4096x256, .bf16⟩
  | .local _ .vmem, ⟨3, _⟩ => ⟨S4096x256, .bf16⟩
  | _, _ => ⟨S2x4096x22016, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![1, 88], ![false, false]⟩

def cc0_transform_0 (i : grid0.Coords) : Fin 3 → Nat :=
  let arg0 : BitVec 32 := BitVec.ofNat 32 (i 0).val
  let arg1 : BitVec 32 := BitVec.ofNat 32 (i 1).val
  let c44_i32 : BitVec 32 := 44#32
  let v0 : BitVec 32 := Scalar.divsi arg1 c44_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c44_i32 c0_i32_1
  let v7 : BitVec 32 := Scalar.extui v6
  let c0_i32_2 : BitVec 32 := 0#32
  let v8 : BitVec 1 := Scalar.cmpi .slt c44_i32 c0_i32_2
  let v9 : BitVec 32 := Scalar.extui v8
  let v10 : BitVec 32 := Scalar.subi v7 v9
  let v11 : BitVec 1 := Scalar.cmpi .ne v5 v10
  let v12 : BitVec 32 := Scalar.remsi arg1 c44_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c43_i32 : BitVec 32 := 43#32
  let v17 : BitVec 32 := Scalar.muli v16 c43_i32
  let c44_i32_4 : BitVec 32 := 44#32
  let c0_i32_5 : BitVec 32 := 0#32
  let v18 : BitVec 1 := Scalar.cmpi .eq c44_i32_4 c0_i32_5
  let c1_i32_6 : BitVec 32 := 1#32
  let v19 : BitVec 32 := Scalar.select v18 c1_i32_6 c44_i32_4
  let v20 : BitVec 32 := Scalar.remsi arg1 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let v28 : BitVec 32 := Scalar.addi v17 v27
  let c85_i32 : BitVec 32 := 85#32
  let v29 : BitVec 32 := Scalar.minsi v28 c85_i32
  let c0_i32_10 : BitVec 32 := 0#32
  let c0_i32_11 : BitVec 32 := 0#32
  let c0_i32_12 : BitVec 32 := 0#32
  ![c0_i32_10.toNat, c0_i32_11.toNat, v29.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]
-- ==== Reference16Ideal.lean ====
abbrev S2x4096x22016 : Shape := ⟨3, ![2, 4096, 22016]⟩
abbrev S1x4096x11008 : Shape := ⟨3, ![1, 4096, 11008]⟩
abbrev S4096x11008 : Shape := ⟨2, ![4096, 11008]⟩
abbrev S_ : Shape := ⟨0, ![]⟩
abbrev S4096x11264 : Shape := ⟨2, ![4096, 11264]⟩
abbrev S4096x22528 : Shape := ⟨2, ![4096, 22528]⟩

abbrev nBuf : Space → Nat
  | .hbm => 13
  | .vmem => 0
  | .smem => 0
  | _ => 0

abbrev bufTy : (tb : Table) → Fin (tcTables nBuf tb) → BufTy
  | .hbm, ⟨0, _⟩ => ⟨S2x4096x22016, .f32⟩
  | .hbm, ⟨1, _⟩ => ⟨S1x4096x11008, .f32⟩
  | .hbm, ⟨2, _⟩ => ⟨S4096x11008, .f32⟩
  | .hbm, ⟨3, _⟩ => ⟨S_, .i32⟩
  | .hbm, ⟨4, _⟩ => ⟨S_, .f32⟩
  | .hbm, ⟨5, _⟩ => ⟨S4096x11264, .f32⟩
  | .hbm, ⟨6, _⟩ => ⟨S1x4096x11008, .f32⟩
  | .hbm, ⟨7, _⟩ => ⟨S4096x11008, .f32⟩
  | .hbm, ⟨8, _⟩ => ⟨S_, .i32⟩
  | .hbm, ⟨9, _⟩ => ⟨S_, .f32⟩
  | .hbm, ⟨10, _⟩ => ⟨S4096x11264, .f32⟩
  | .hbm, ⟨11, _⟩ => ⟨S4096x22528, .f32⟩
  | .hbm, ⟨12, _⟩ => ⟨S4096x22528, .bf16⟩
  | _, _ => ⟨S2x4096x22016, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_call0_v0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_call1_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel17.lean ====
abbrev S2x11008x4096 : Shape := ⟨3, ![2, 11008, 4096]⟩
abbrev S11264x4096 : Shape := ⟨2, ![11264, 4096]⟩
abbrev S1x256x4096 : Shape := ⟨3, ![1, 256, 4096]⟩
abbrev S256x4096 : Shape := ⟨2, ![256, 4096]⟩

abbrev nBuf : Space → Nat
  | .hbm => 2
  | .vmem => 4
  | .smem => 0
  | _ => 0

abbrev bufTy : (tb : Table) → Fin (tcTables nBuf tb) → BufTy
  | .hbm, ⟨0, _⟩ => ⟨S2x11008x4096, .f32⟩
  | .hbm, ⟨1, _⟩ => ⟨S11264x4096, .bf16⟩
  | .local _ .vmem, ⟨0, _⟩ => ⟨S1x256x4096, .f32⟩
  | .local _ .vmem, ⟨1, _⟩ => ⟨S1x256x4096, .f32⟩
  | .local _ .vmem, ⟨2, _⟩ => ⟨S256x4096, .bf16⟩
  | .local _ .vmem, ⟨3, _⟩ => ⟨S256x4096, .bf16⟩
  | _, _ => ⟨S2x11008x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![44, 1], ![false, false]⟩

def cc0_transform_0 (i : grid0.Coords) : Fin 3 → Nat :=
  let arg0 : BitVec 32 := BitVec.ofNat 32 (i 0).val
  let arg1 : BitVec 32 := BitVec.ofNat 32 (i 1).val
  let c44_i32 : BitVec 32 := 44#32
  let v0 : BitVec 32 := Scalar.divsi arg0 c44_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c44_i32 c0_i32_1
  let v7 : BitVec 32 := Scalar.extui v6
  let c0_i32_2 : BitVec 32 := 0#32
  let v8 : BitVec 1 := Scalar.cmpi .slt c44_i32 c0_i32_2
  let v9 : BitVec 32 := Scalar.extui v8
  let v10 : BitVec 32 := Scalar.subi v7 v9
  let v11 : BitVec 1 := Scalar.cmpi .ne v5 v10
  let v12 : BitVec 32 := Scalar.remsi arg0 c44_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c43_i32 : BitVec 32 := 43#32
  let v17 : BitVec 32 := Scalar.muli v16 c43_i32
  let c44_i32_4 : BitVec 32 := 44#32
  let c0_i32_5 : BitVec 32 := 0#32
  let v18 : BitVec 1 := Scalar.cmpi .eq c44_i32_4 c0_i32_5
  let c1_i32_6 : BitVec 32 := 1#32
  let v19 : BitVec 32 := Scalar.select v18 c1_i32_6 c44_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let v28 : BitVec 32 := Scalar.addi v17 v27
  let c42_i32 : BitVec 32 := 42#32
  let v29 : BitVec 32 := Scalar.minsi v28 c42_i32
  let c0_i32_10 : BitVec 32 := 0#32
  let c0_i32_11 : BitVec 32 := 0#32
  let c0_i32_12 : BitVec 32 := 0#32
  ![c0_i32_10.toNat, v29.toNat, c0_i32_11.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]
-- ==== Reference17Ideal.lean ====
abbrev S2x11008x4096 : Shape := ⟨3, ![2, 11008, 4096]⟩
abbrev S1x11008x4096 : Shape := ⟨3, ![1, 11008, 4096]⟩
abbrev S11008x4096 : Shape := ⟨2, ![11008, 4096]⟩
abbrev S_ : Shape := ⟨0, ![]⟩
abbrev S11264x4096 : Shape := ⟨2, ![11264, 4096]⟩

abbrev nBuf : Space → Nat
  | .hbm => 7
  | .vmem => 0
  | .smem => 0
  | _ => 0

abbrev bufTy : (tb : Table) → Fin (tcTables nBuf tb) → BufTy
  | .hbm, ⟨0, _⟩ => ⟨S2x11008x4096, .f32⟩
  | .hbm, ⟨1, _⟩ => ⟨S1x11008x4096, .f32⟩
  | .hbm, ⟨2, _⟩ => ⟨S11008x4096, .f32⟩
  | .hbm, ⟨3, _⟩ => ⟨S_, .i32⟩
  | .hbm, ⟨4, _⟩ => ⟨S_, .f32⟩
  | .hbm, ⟨5, _⟩ => ⟨S11264x4096, .f32⟩
  | .hbm, ⟨6, _⟩ => ⟨S11264x4096, .bf16⟩
  | _, _ => ⟨S2x11008x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_call0_v0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Norm.lean ====
module

public import proofs.«01_k».proof.Defs

/-! The layer norm of one row, as a function of its entries. -/

@[expose] public section

noncomputable section

namespace Cert.Norm

open Idealize.ShloMosaic

/-- The number that the word `w` writes. -/
abbrev lit (w : BitVec 32) : EReal := Ideal.ofBits .f32 w

/-- The mean of a row, `N` being the word of its length. -/
def mean {n : Nat} (N : BitVec 32) (f : Fin n → EReal) : EReal := Ideal.div (∑ k, f k) (lit N)

/-- One entry of the normalized row, scaled by `g` and shifted by `b`. -/
def normed {n : Nat} (N : BitVec 32) (f : Fin n → EReal) (g b : EReal) (k : Fin n) : EReal :=
  (f k - mean N f) * Ideal.rsqrt (mean N (fun k => (f k - mean N f) * (f k - mean N f)) + lit 0x3727C5AC#32) * g + b

end Cert.Norm

end
-- ==== Proof.ResValue.lean ====
module

public import proofs.«01_k».proof.Proof.Norm
public import proofs.«01_k».proof.Proof.Gen.Kernel5Ideal.Value
public import Idealize.ShloMosaic.Lib.Pointwise
public import Idealize.ShloMosaic.Lib.Pipeline.ValueKit

/-!
The residual layer norm: what the kernel leaves in its two result arrays.
-/

@[expose] public section

noncomputable section

namespace Cert.ResNorm

open Idealize.ShloMosaic Idealize.ShloMosaic.TcCoe Idealize.SL.Sem
open Cert.Kernel5Ideal Cert.Kernel5Ideal.Gen Cert.Kernel5Ideal.Value Cert.Norm

/-- One entry of the result: the stream scaled by DeepNorm's constant, plus the sublayer's output, normalized. -/
def out {n : Nat} (Y H : (⟨2, ![n, 4096]⟩ : Shape).Idx → EReal) (g b : Fin 4096 → EReal) (r : Fin n) (k : Fin 4096) :
    EReal :=
  normed 0x45800000#32 (fun k => lit 0x3FB504F3#32 * H (ix2 r k) + Y (ix2 r k)) (g k) (b k) k

/-- One block of the result. -/
theorem block_apply (h : Vec Ideal S256x4096 .f32) (y : Vec Ideal S256x4096 .bf16) (g b : Vec Ideal S1x4096 .f32)
    (j : S256x4096.Idx) : k0_pay1 (F := Ideal) h y g b j
      = out y h (fun k => g (ix2 0 k)) (fun k => b (ix2 0 k)) (j 0) (j 1) := by
  obtain ⟨r, k, rfl⟩ : ∃ (r : Fin 256) (k : Fin 4096), j = ix2 r k := ⟨j 0, j 1, eq_ix2 j⟩
  pointwise [k0_pay1]
  rfl

/-- The rounded copy of one block. -/
theorem copy_apply (h : Vec Ideal S256x4096 .f32) (y : Vec Ideal S256x4096 .bf16) (g b : Vec Ideal S1x4096 .f32)
    (j : S256x4096.Idx) : k0_pay2 (F := Ideal) h y g b j
      = out y h (fun k => g (ix2 0 k)) (fun k => b (ix2 0 k)) (j 0) (j 1) := by
  rw [← block_apply]
  pointwise [k0_pay2]

variable (m : (ℓ : Loc nD τ sig) → Buf (Elt Ideal) ℓ)

/-- The window indices over the grid: every array goes by row blocks, the scale and the shift stay. -/
theorem idx : ∀ t : Fin cfg0.N, win0_0.index t 0 = t.val ∧ win0_0.index t 1 = 0
    ∧ win0_1.index t 0 = t.val ∧ win0_1.index t 1 = 0 ∧ win0_2.index t 0 = 0 ∧ win0_2.index t 1 = 0
    ∧ win0_3.index t 0 = 0 ∧ win0_3.index t 1 = 0 ∧ win0_4.index t 0 = t.val ∧ win0_4.index t 1 = 0
    ∧ win0_5.index t 0 = t.val ∧ win0_5.index t 1 = 0 :=
  (by decide +kernel : ∀ t : Fin grid0.N, _)

/-- A block's row of results is the arrays' row of results. -/
theorem out_iblk (c : Dev nD) (t : Fin cfg0.N) (r : Fin 256) (R : Fin 16384) (hR : R.val = t.val * 256 + r.val)
    (k : Fin 4096) : out (n := 256) (iblk m c 1 t) (iblk m c 0 t) (fun k => iblk m c 2 t (ix2 0 k))
        (fun k => iblk m c 3 t (ix2 0 k)) r k
      = out (n := 16384) (m ((c : Thread nD τ).loc main_arg0)) (m ((c : Thread nD τ).loc main_arg1))
          (fun k => m ((c : Thread nD τ).loc main_arg2) (ix1 k)) (fun k => m ((c : Thread nD τ).loc main_arg3) (ix1 k))
          R k := by
  obtain ⟨e0, e1, e2, e3, e4, e5, e6, e7, -⟩ := idx t
  unfold out
  congr 1
  · funext k
    congr 1
    · congr 1
      blk_simp [iblk]
      refine congrArg (m ((c : Thread nD τ).loc main_arg1)) ?_
      blk_ext [e0, e1, hR]
    · blk_simp [iblk]
      refine congrArg (m ((c : Thread nD τ).loc main_arg0)) ?_
      blk_ext [e2, e3, hR]
  · blk_simp [iblk]
    entry_read
    pointwise
    refine congrArg (m ((c : Thread nD τ).loc main_arg2)) ?_
    blk_ext [e4, e5]
  · blk_simp [iblk]
    entry_read
    pointwise
    refine congrArg (m ((c : Thread nD τ).loc main_arg3)) ?_
    blk_ext [e6, e7]

/-- What both results hold, the second one rounded. -/
abbrev outs (c : Dev nD) : S16384x4096.Idx → EReal := fun i =>
  out (n := 16384) (m ((c : Thread nD τ).loc main_arg0)) (m ((c : Thread nD τ).loc main_arg1))
    (fun k => m ((c : Thread nD τ).loc main_arg2) (ix1 k)) (fun k => m ((c : Thread nD τ).loc main_arg3) (ix1 k)) (i 0) (i 1)

/-- The first result array after the run. -/
theorem final (c : Dev nD) : (dats m 0 c).arrAt 4 cfg0.N = outs m c := by
  refine (dats m 0 c).arrAt_eq_of_covers 4 _ (by decide +kernel) fun t hf y => ?_
  obtain ⟨-, -, -, -, -, -, -, -, e8, e9, -⟩ := idx t
  have r0 : ((win0_4.blk t).view.emb y 0).val = t.val * 256 + (y 0).val := by blk_simp; rw [e8]
  have r1 : ((win0_4.blk t).view.emb y 1) = y 1 := Fin.ext (by blk_simp; rw [e9]; omega)
  blk_simp
  rw [after0_4]
  frame_out
  refine (block_apply _ _ _ _ y).trans ((out_iblk m c t _ _ r0 _).trans ?_)
  exact congrArg _ r1.symm

/-- The second result array after the run. -/
theorem final_copy (c : Dev nD) : (dats m 0 c).arrAt 5 cfg0.N = outs m c := by
  refine (dats m 0 c).arrAt_eq_of_covers 5 _ (by decide +kernel) fun t hf y => ?_
  obtain ⟨-, -, -, -, -, -, -, -, -, -, e8, e9⟩ := idx t
  have r0 : ((win0_5.blk t).view.emb y 0).val = t.val * 256 + (y 0).val := by blk_simp; rw [e8]
  have r1 : ((win0_5.blk t).view.emb y 1) = y 1 := Fin.ext (by blk_simp; rw [e9]; omega)
  blk_simp
  rw [after0_5]
  frame_out
  refine (copy_apply _ _ _ _ y).trans ((out_iblk m c t _ _ r0 _).trans ?_)
  exact congrArg _ r1.symm

end Cert.ResNorm

end
-- ==== Proof.ResRef.lean ====
module

public import proofs.«01_k».proof.Proof.ResValue
public import proofs.«01_k».proof.Proof.Gen.Reference5Ideal.Read

/-! The reference of the residual layer norm, entry by entry. -/

@[expose] public section

noncomputable section

namespace Cert.ResNorm

open Idealize.ShloMosaic Idealize.ShloMosaic.TcCoe
open Cert.Reference5Ideal Cert.Reference5Ideal.Gen Cert.Reference5Ideal.Read Cert.Norm

/-- The reference's first result. -/
theorem ref_eq (Y : FVec Ideal S16384x4096 .bf16) (H : FVec Ideal S16384x4096 .f32) (g b : FVec Ideal S4096 .f32) :
    val_main_v27 (F := Ideal) Y H g b
      = fun i => out (n := 16384) Y H (fun k => g (ix1 k)) (fun k => b (ix1 k)) (i 0) (i 1) := by
  funext i
  obtain ⟨r, k, rfl⟩ : ∃ (r : Fin 16384) (k : Fin 4096), i = ix2 r k := ⟨i 0, i 1, eq_ix2 i⟩
  pointwise [val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4]
  rfl

/-- The reference's second result is the first one rounded. -/
theorem ref_copy (Y : FVec Ideal S16384x4096 .bf16) (H : FVec Ideal S16384x4096 .f32) (g b : FVec Ideal S4096 .f32) :
    val_main_v28 (F := Ideal) Y H g b = val_main_v27 (F := Ideal) Y H g b := by
  funext i
  pointwise [val_main_v28]

end Cert.ResNorm

end
-- ==== Proof.ResEq.lean ====
module

public import proofs.«01_k».proof.Proof.ResRef
public import proofs.«01_k».proof.Proof.Gen.Reference5Ideal.Run
public import Idealize.ShloMosaic.Adequacy
public import Idealize.ShloMosaic.Init
public import Idealize.ShloMosaic.Lib.Quiescent

/-! The residual layer norm: the kernel's run and the reference's leave the same two arrays. -/

@[expose] public section

noncomputable section

namespace Cert.ResNorm

open Idealize.ShloMosaic Idealize.ShloMosaic.TcCoe Idealize.SL.Sem

/-- The reference runs to its end and keeps its arguments. -/
theorem reference_runs : quiescent_Reference5Ideal := fun m ρ _ =>
  (θ_run Reference5Ideal.defs _ _).mono (fun r h => ⟨fun c => (h c).2.2, sem_eq_zero_of_no_sems (by decide) r.2⟩)
    (Reference5Ideal.Value.run (F := Ideal) m ρ)

/-- The kernel and the reference leave the same arrays. -/
theorem equal : algebraic_Kernel5Ideal_Reference5Ideal := by
  intro m ρ m' ρ' _ hagree
  refine ⟨fun c => outs m c,
    fun c => outs m c,
    (θ_run Kernel5Ideal.defs _ _).mono (fun r h c => ⟨(h c).1.trans (final m c), (h c).2.1.trans (final_copy m c), (h c).2.2⟩) (Kernel5Ideal.Value.run_blocks (F := Ideal) m ρ), ?_⟩
  refine (θ_run Reference5Ideal.defs _ _).mono (fun r h c => ⟨(h c).1.trans ?_, (h c).2.1.trans ?_, (h c).2.2⟩) (Reference5Ideal.Value.run (F := Ideal) m' ρ')
  · rw [Reference5Ideal.Read.val_main_v27_eq, ref_eq]
    obtain ⟨h0, h1, h2, h3⟩ := hagree c
    rw [h0, h1, h2, h3]
  · rw [Reference5Ideal.Read.val_main_v28_eq, ref_copy, ref_eq]
    obtain ⟨h0, h1, h2, h3⟩ := hagree c
    rw [h0, h1, h2, h3]

end Cert.ResNorm

end
-- ==== Proof.EmbValue.lean ====
module

public import proofs.«01_k».proof.Proof.Norm
public import proofs.«01_k».proof.Proof.Gen.Kernel6Ideal.Value
public import Idealize.ShloMosaic.Lib.Pointwise
public import Idealize.ShloMosaic.Lib.Pipeline.ValueKit

/-!
The layer norm of the embedded tokens: what the kernel leaves in its two result arrays.
-/

@[expose] public section

noncomputable section

namespace Cert.EmbNorm

open Idealize.ShloMosaic Idealize.ShloMosaic.TcCoe Idealize.SL.Sem
open Cert.Kernel6Ideal Cert.Kernel6Ideal.Gen Cert.Kernel6Ideal.Value Cert.Norm

/-- One entry of the result: a row of tokens, normalized. -/
def out {n : Nat} (X : (⟨2, ![n, 4096]⟩ : Shape).Idx → EReal) (g b : Fin 4096 → EReal) (r : Fin n) (k : Fin 4096) : EReal :=
  normed 0x45800000#32 (fun k => X (ix2 r k)) (g k) (b k) k

/-- The tokens of both sequences, one sequence after the other. -/
def flat (X : S2x8192x4096.Idx → EReal) (i : S16384x4096.Idx) : EReal :=
  X (ix3 ⟨(i 0).val / 8192, by have h : (i 0).val < 16384 := (i 0).isLt; omega⟩ ⟨(i 0).val % 8192, by omega⟩ (i 1))

/-- One block of the result. -/
theorem block_apply (x : Vec Ideal S256x4096 .f32) (g b : Vec Ideal S1x4096 .f32)
    (j : S256x4096.Idx) : k0_pay1 (F := Ideal) x g b j
      = out x (fun k => g (ix2 0 k)) (fun k => b (ix2 0 k)) (j 0) (j 1) := by
  obtain ⟨r, k, rfl⟩ : ∃ (r : Fin 256) (k : Fin 4096), j = ix2 r k := ⟨j 0, j 1, eq_ix2 j⟩
  pointwise [k0_pay1]
  rfl

/-- The rounded copy of one block. -/
theorem copy_apply (x : Vec Ideal S256x4096 .f32) (g b : Vec Ideal S1x4096 .f32)
    (j : S256x4096.Idx) : k0_pay2 (F := Ideal) x g b j
      = out x (fun k => g (ix2 0 k)) (fun k => b (ix2 0 k)) (j 0) (j 1) := by
  rw [← block_apply]
  pointwise [k0_pay2]

variable (m : (ℓ : Loc nD τ sig) → Buf (Elt Ideal) ℓ)

/-- The window indices over the grid: the tokens go by row blocks, the scale and the shift stay. -/
theorem idx : ∀ t : Fin cfg0.N, win0_0.index t 0 = t.val ∧ win0_0.index t 1 = 0
    ∧ win0_1.index t 0 = 0 ∧ win0_1.index t 1 = 0 ∧ win0_2.index t 0 = 0 ∧ win0_2.index t 1 = 0
    ∧ win0_3.index t 0 = t.val ∧ win0_3.index t 1 = 0 ∧ win0_4.index t 0 = t.val ∧ win0_4.index t 1 = 0 :=
  (by decide +kernel : ∀ t : Fin grid0.N, _)

/-- A block's row of results is the array's row of results. -/
theorem out_iblk (c : Dev nD) (t : Fin cfg0.N) (r : Fin 256) (R : Fin 16384) (hR : R.val = t.val * 256 + r.val)
    (k : Fin 4096) : out (n := 256) (iblk m c 0 t) (fun k => iblk m c 1 t (ix2 0 k)) (fun k => iblk m c 2 t (ix2 0 k)) r k
      = out (n := 16384) (flat (m ((c : Thread nD τ).loc main_arg0)))
          (fun k => m ((c : Thread nD τ).loc main_arg1) (ix1 k)) (fun k => m ((c : Thread nD τ).loc main_arg2) (ix1 k))
          R k := by
  obtain ⟨e0, e1, e2, e3, e4, e5, -⟩ := idx t
  unfold out
  congr 1
  · funext k
    blk_simp [iblk]
    entry_read
    pointwise [flat]
    refine congrArg (m ((c : Thread nD τ).loc main_arg0)) ?_
    blk_ext [e0, e1, hR]
  · blk_simp [iblk]
    entry_read
    pointwise
    refine congrArg (m ((c : Thread nD τ).loc main_arg1)) ?_
    blk_ext [e2, e3]
  · blk_simp [iblk]
    entry_read
    pointwise
    refine congrArg (m ((c : Thread nD τ).loc main_arg2)) ?_
    blk_ext [e4, e5]

/-- What both results hold, the second one rounded. -/
abbrev outs (c : Dev nD) : S16384x4096.Idx → EReal := fun i =>
  out (n := 16384) (flat (m ((c : Thread nD τ).loc main_arg0))) (fun k => m ((c : Thread nD τ).loc main_arg1) (ix1 k))
    (fun k => m ((c : Thread nD τ).loc main_arg2) (ix1 k)) (i 0) (i 1)

/-- The first result array after the run. -/
theorem final (c : Dev nD) : (dats m 0 c).arrAt 3 cfg0.N = outs m c := by
  refine (dats m 0 c).arrAt_eq_of_covers 3 _ (by decide +kernel) fun t hf y => ?_
  obtain ⟨-, -, -, -, -, -, e8, e9, -⟩ := idx t
  have r0 : ((win0_3.blk t).view.emb y 0).val = t.val * 256 + (y 0).val := by blk_simp; rw [e8]
  have r1 : ((win0_3.blk t).view.emb y 1) = y 1 := Fin.ext (by blk_simp; rw [e9]; omega)
  blk_simp
  rw [after0_3]
  frame_out
  refine (block_apply _ _ _ y).trans ((out_iblk m c t _ _ r0 _).trans ?_)
  exact congrArg _ r1.symm

/-- The second result array after the run. -/
theorem final_copy (c : Dev nD) : (dats m 0 c).arrAt 4 cfg0.N = outs m c := by
  refine (dats m 0 c).arrAt_eq_of_covers 4 _ (by decide +kernel) fun t hf y => ?_
  obtain ⟨-, -, -, -, -, -, -, -, e8, e9⟩ := idx t
  have r0 : ((win0_4.blk t).view.emb y 0).val = t.val * 256 + (y 0).val := by blk_simp; rw [e8]
  have r1 : ((win0_4.blk t).view.emb y 1) = y 1 := Fin.ext (by blk_simp; rw [e9]; omega)
  blk_simp
  rw [after0_4]
  frame_out
  refine (copy_apply _ _ _ y).trans ((out_iblk m c t _ _ r0 _).trans ?_)
  exact congrArg _ r1.symm

end Cert.EmbNorm

end
-- ==== Proof.EmbRef.lean ====
module

public import proofs.«01_k».proof.Proof.EmbValue
public import proofs.«01_k».proof.Proof.Gen.Reference6Ideal.Read

/-! The reference of the embedded tokens' layer norm, entry by entry. -/

@[expose] public section

noncomputable section

namespace Cert.EmbNorm

open Idealize.ShloMosaic Idealize.ShloMosaic.TcCoe
open Cert.Reference6Ideal Cert.Reference6Ideal.Gen Cert.Reference6Ideal.Read Cert.Norm

/-- The reference's first result. -/
theorem ref_eq (X : FVec Ideal S2x8192x4096 .f32) (g b : FVec Ideal S4096 .f32) :
    val_main_v24 (F := Ideal) X g b
      = fun i => out (n := 16384) (flat X) (fun k => g (ix1 k)) (fun k => b (ix1 k)) (i 0) (i 1) := by
  funext i
  obtain ⟨r, k, rfl⟩ : ∃ (r : Fin 16384) (k : Fin 4096), i = ix2 r k := ⟨i 0, i 1, eq_ix2 i⟩
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3]
  rfl

/-- The reference's second result is the first one rounded. -/
theorem ref_copy (X : FVec Ideal S2x8192x4096 .f32) (g b : FVec Ideal S4096 .f32) :
    val_main_v25 (F := Ideal) X g b = val_main_v24 (F := Ideal) X g b := by
  funext i
  pointwise [val_main_v25]

end Cert.EmbNorm

end
-- ==== Proof.EmbEq.lean ====
module

public import proofs.«01_k».proof.Proof.EmbRef
public import proofs.«01_k».proof.Proof.Gen.Reference6Ideal.Run
public import Idealize.ShloMosaic.Adequacy
public import Idealize.ShloMosaic.Init
public import Idealize.ShloMosaic.Lib.Quiescent

/-! The embedded tokens' layer norm: the kernel's run and the reference's leave the same two arrays. -/

@[expose] public section

noncomputable section

namespace Cert.EmbNorm

open Idealize.ShloMosaic Idealize.ShloMosaic.TcCoe Idealize.SL.Sem

/-- The reference runs to its end and keeps its arguments. -/
theorem reference_runs : quiescent_Reference6Ideal := fun m ρ _ =>
  (θ_run Reference6Ideal.defs _ _).mono (fun r h => ⟨fun c => (h c).2.2, sem_eq_zero_of_no_sems (by decide) r.2⟩)
    (Reference6Ideal.Value.run (F := Ideal) m ρ)

/-- The kernel and the reference leave the same arrays. -/
theorem equal : algebraic_Kernel6Ideal_Reference6Ideal := by
  intro m ρ m' ρ' _ hagree
  refine ⟨fun c => outs m c,
    fun c => outs m c,
    (θ_run Kernel6Ideal.defs _ _).mono (fun r h c => ⟨(h c).1.trans (final m c), (h c).2.1.trans (final_copy m c), (h c).2.2⟩) (Kernel6Ideal.Value.run_blocks (F := Ideal) m ρ), ?_⟩
  refine (θ_run Reference6Ideal.defs _ _).mono (fun r h c => ⟨(h c).1.trans ?_, (h c).2.1.trans ?_, (h c).2.2⟩) (Reference6Ideal.Value.run (F := Ideal) m' ρ')
  · rw [Reference6Ideal.Read.val_main_v24_eq, ref_eq]
    obtain ⟨h0, h1, h2⟩ := hagree c
    rw [h0, h1, h2]
  · rw [Reference6Ideal.Read.val_main_v25_eq, ref_copy, ref_eq]
    obtain ⟨h0, h1, h2⟩ := hagree c
    rw [h0, h1, h2]

end Cert.EmbNorm

end
-- ==== Proof.Halo.lean ====
module

public import proofs.«01_k».proof.Defs
public import Idealize.ShloMosaic.Lib.Pointwise

/-!
A sequence of 8192 positions with sixteen zeros before it and sixteen after it, and the width-3 convolution along it. The
calls that convolve along a sequence load row blocks with sixteen neighbours on each side, and their references pad with
zeros: both are read at these positions.
-/

@[expose] public section

noncomputable section

namespace Cert.Halo

/-- The sequence with its zeros; position `p` of it is position `p - 16` of the sequence. -/
def ext (f : Fin 8192 → EReal) (p : Nat) : EReal := if h : 16 ≤ p ∧ p < 8208 then f ⟨p - 16, by omega⟩ else 0

/-- Within the sequence. -/
theorem ext_in (f : Fin 8192 → EReal) (p : Nat) (s : Fin 8192) (h : p = s.val + 16) : ext f p = f s := by
  unfold ext
  rw [dif_pos (by omega)]
  exact congrArg f (Fin.ext (by show p - 16 = s.val; omega))

/-- Beyond the sequence's ends. -/
theorem ext_out (f : Fin 8192 → EReal) (p : Nat) (h : p < 16 ∨ 8208 ≤ p) : ext f p = 0 := by
  unfold ext
  rw [dif_neg (by omega)]

/-- The width-3 convolution with the taps `w` at position `s`. -/
def conv3 (w : Fin 3 → EReal) (f : Fin 8192 → EReal) (s : Nat) : EReal :=
  w 0 * ext f (s + 15) + w 1 * ext f (s + 16) + w 2 * ext f (s + 17)

/-- The convolution depends on its taps, its sequence and its position alone. -/
theorem conv3_congr {w w' : Fin 3 → EReal} {f f' : Fin 8192 → EReal} {s s' : Nat} (hw : ∀ q, w q = w' q) (hf : f = f')
    (hs : s = s') : conv3 w f s = conv3 w' f' s' := by
  rw [funext hw, hf, hs]

end Cert.Halo

end
-- ==== Proof.SconvValue.lean ====
module

public import proofs.«01_k».proof.Proof.Halo
public import proofs.«01_k».proof.Proof.Gen.Kernel8Ideal.Value
public import Idealize.ShloMosaic.Lib.Pipeline.ValueKit

/-!
The short gated convolution: the array after the run, entry by entry. A point lays down the products of two column groups
for a block of 256 rows with sixteen neighbours on each side, zeros beyond a sequence's ends, and writes the gated
convolution in eight tiles.
-/

@[expose] public section

noncomputable section

namespace Cert.ShortConv

open Idealize.ShloMosaic Idealize.ShloMosaic.TcCoe Idealize.SL.Sem
open Cert.Kernel8Ideal Cert.Kernel8Ideal.Gen Cert.Kernel8Ideal.Value

/-- The convolved product of channel `k` of sequence `b`. -/
def prod (U : S2x8192x11264.Idx → EReal) (b : Fin 2) (k : Fin 1024) (s : Fin 8192) : EReal :=
  U (ix3 b s ⟨9216 + k.val, by omega⟩) * U (ix3 b s ⟨10240 + k.val, by omega⟩)

/-- The result: the gate's column times the convolution. -/
def gated (U : S2x8192x11264.Idx → EReal) (W : S3x1024.Idx → EReal) (i : S2x8192x1024.Idx) : EReal :=
  U (ix3 (i 0) (i 1) ⟨8192 + (i 2).val, by have h : (i 2).val < 1024 := (i 2).isLt; omega⟩)
    * Halo.conv3 (fun q => W (ix2 q (i 2))) (prod U (i 0) (i 2)) (i 1).val

/-- The rows before the block are zeros at the start of a sequence. -/
theorem pay3_apply (i : grid0.Coords) (x y : Vec Ideal S1x16x1024 .bf16) (j : S16x1024.Idx) :
    k0_pay3 (F := Ideal) i x y j = if (i 1).val = 0 then 0 else x (ix3 0 (j 0) (j 1)) * y (ix3 0 (j 0) (j 1)) := by
  pointwise [k0_pay3]
  have hq : (i 1).val < 32 := (i 1).isLt
  generalize (i 1).val = q at hq
  generalize x _ * y _ = z
  interval_cases q <;> rfl

/-- The block's own rows are products. -/
theorem pay4_apply (x y : Vec Ideal S1x256x1024 .bf16) (j : S256x1024.Idx) :
    k0_pay4 (F := Ideal) x y j = x (ix3 0 (j 0) (j 1)) * y (ix3 0 (j 0) (j 1)) := by
  pointwise [k0_pay4]

/-- The rows after the block are zeros at the end of a sequence. -/
theorem pay5_apply (i : grid0.Coords) (x y : Vec Ideal S1x16x1024 .bf16) (j : S16x1024.Idx) :
    k0_pay5 (F := Ideal) (k0_pay2 x y) (Scalar.cmpi CmpIPredicate.slt (BitVec.ofNat 32 (i 1).val) 31#32) j
      = if (i 1).val = 31 then 0 else x (ix3 0 (j 0) (j 1)) * y (ix3 0 (j 0) (j 1)) := by
  pointwise [k0_pay5, k0_pay2]
  have hq : (i 1).val < 32 := (i 1).isLt
  generalize (i 1).val = q at hq
  generalize x _ * y _ = z
  interval_cases q <;> rfl

/-- The windows over the grid: a row block's neighbours are clamped at the array's ends. -/
theorem idx : ∀ t : Fin cfg0.N, win0_0.index t 0 = t.val / 32 ∧ win0_0.index t 1 = t.val % 32 ∧ win0_0.index t 2 = 8
    ∧ win0_1.index t 0 = t.val / 32 ∧ win0_1.index t 1 = t.val % 32 * 16 - 1 ∧ win0_1.index t 2 = 9
    ∧ win0_2.index t 0 = t.val / 32 ∧ win0_2.index t 1 = t.val % 32 ∧ win0_2.index t 2 = 9
    ∧ win0_3.index t 0 = t.val / 32 ∧ win0_3.index t 1 = min (t.val % 32 * 16 + 16) 511 ∧ win0_3.index t 2 = 9
    ∧ win0_4.index t 0 = t.val / 32 ∧ win0_4.index t 1 = t.val % 32 * 16 - 1 ∧ win0_4.index t 2 = 10
    ∧ win0_5.index t 0 = t.val / 32 ∧ win0_5.index t 1 = t.val % 32 ∧ win0_5.index t 2 = 10
    ∧ win0_6.index t 0 = t.val / 32 ∧ win0_6.index t 1 = min (t.val % 32 * 16 + 16) 511 ∧ win0_6.index t 2 = 10 :=
  (by decide +kernel : ∀ t : Fin grid0.N, _)

/-- The taps' and the result's windows, and the second grid coordinate. -/
theorem idx' : ∀ t : Fin cfg0.N, win0_7.index t 0 = 0 ∧ win0_7.index t 1 = 0
    ∧ win0_8.index t 0 = t.val / 32 ∧ win0_8.index t 1 = t.val % 32 ∧ win0_8.index t 2 = 0
    ∧ (grid0.coords t 1).val = t.val % 32 :=
  (by decide +kernel : ∀ t : Fin grid0.N, _)

variable (m : (ℓ : Loc nD τ sig) → Buf (Elt Ideal) ℓ)

/-- The three parts of the products as they are laid down. -/
abbrev laid (c : Dev nD) (t : Fin cfg0.N) : List (View.Piece (Elt Ideal) S288x1024 .f32) :=
  [⟨Rect.unit ![272, 0] ![16, 1024] inb_S288x1024_S16x1024_272_0, k0_pay5 (k0_pay2 (iblk m c 3 t) (iblk m c 6 t))
      (Scalar.cmpi CmpIPredicate.slt (BitVec.ofNat 32 (grid0.coords t 1).val) 31#32)⟩,
    ⟨Rect.unit ![16, 0] ![256, 1024] inb_S288x1024_S256x1024_16_0, k0_pay4 (iblk m c 2 t) (iblk m c 5 t)⟩,
    ⟨Rect.unit ![0, 0] ![16, 1024] inb_S288x1024_S16x1024_0_0,
      k0_pay3 (grid0.coords t) (iblk m c 1 t) (iblk m c 4 t)⟩]

/-- What is laid down at a point is a part of the padded products. -/
theorem laid_apply (c : Dev nD) (t : Fin cfg0.N) (b : Fin 2) (hb : b.val = t.val / 32) (j : S288x1024.Idx) :
    View.canon (laid m c t) j
      = Halo.ext (prod (m ((c : Thread nD τ).loc main_arg0)) b (j 1)) (t.val % 32 * 256 + (j 0).val) := by
  obtain ⟨-, -, -, e0, e1, e2, e3, e4, e5, e6, e7, e8, e9, e10, e11, e12, e13, e14, e15, e16, e17⟩ := idx t
  obtain ⟨-, -, -, -, -, g⟩ := idx' t
  have j1 : (j 1).val < 1024 := (j 1).isLt
  canon_tiles x h using View.cover_of_tiledBy (laid m c t) ![16, 1024] (by sl_kernel_rfl) j
  · have hx : (x 0).val < 16 := (x 0).isLt
    refine (pay5_apply _ _ _ x).trans ?_
    rw [g]
    by_cases hz : t.val % 32 = 31
    · rw [if_pos hz, Halo.ext_out _ _ (by omega)]
    · rw [if_neg hz, Halo.ext_in _ _ ⟨t.val % 32 * 256 + 256 + (x 0).val, by omega⟩ (by show _ = _ + 16; dsimp only; omega)]
      unfold prod
      blk_simp [iblk]
      congr 1
      · refine congrArg (m ((c : Thread nD τ).loc main_arg0)) ?_
        blk_ext [e6, e7, e8, hb]
      · refine congrArg (m ((c : Thread nD τ).loc main_arg0)) ?_
        blk_ext [e15, e16, e17, hb]
  · have hx : (x 0).val < 256 := (x 0).isLt
    refine (pay4_apply _ _ x).trans ?_
    rw [Halo.ext_in _ _ ⟨t.val % 32 * 256 + (x 0).val, by omega⟩ (by show _ = _ + 16; dsimp only; omega)]
    unfold prod
    blk_simp [iblk]
    congr 1
    · refine congrArg (m ((c : Thread nD τ).loc main_arg0)) ?_
      blk_ext [e3, e4, e5, hb]
    · refine congrArg (m ((c : Thread nD τ).loc main_arg0)) ?_
      blk_ext [e12, e13, e14, hb]
  · have hx : (x 0).val < 16 := (x 0).isLt
    refine (pay3_apply _ _ _ x).trans ?_
    rw [g]
    by_cases hz : t.val % 32 = 0
    · rw [if_pos hz, Halo.ext_out _ _ (by omega)]
    · rw [if_neg hz, Halo.ext_in _ _ ⟨t.val % 32 * 256 + (x 0).val - 16, by omega⟩ (by show _ = _ + 16; dsimp only; omega)]
      unfold prod
      blk_simp [iblk]
      congr 1
      · refine congrArg (m ((c : Thread nD τ).loc main_arg0)) ?_
        blk_ext [e0, e1, e2, hb]
      · refine congrArg (m ((c : Thread nD τ).loc main_arg0)) ?_
        blk_ext [e9, e10, e11, hb]

/-- One tile: the rows of a strip of the laid products, convolved by turning the strip, times the gate. -/
theorem pay6_apply (x : Vec Ideal S144x256 .f32) (w : Vec Ideal S3x256 .f32) (g : Vec Ideal S1x128x256 .bf16)
    (j : S1x128x256.Idx) : k0_pay6 (F := Ideal) x w g j = g j
      * (w (ix2 0 (j 2)) * x (ix2 ⟨(j 1).val + 7, by have h : (j 1).val < 128 := (j 1).isLt; omega⟩ (j 2))
        + w (ix2 1 (j 2)) * x (ix2 ⟨(j 1).val + 8, by have h : (j 1).val < 128 := (j 1).isLt; omega⟩ (j 2))
        + w (ix2 2 (j 2)) * x (ix2 ⟨(j 1).val + 9, by have h : (j 1).val < 128 := (j 1).isLt; omega⟩ (j 2))) := by
  have h : (j 1).val < 128 := (j 1).isLt
  have e7 : ((j 1).val + 8 + 144 - 1) % 144 = (j 1).val + 7 := by omega
  have e8 : 8 + (j 1).val = (j 1).val + 8 := by omega
  have e9 : ((j 1).val + 8 + 144 - 143) % 144 = (j 1).val + 9 := by omega
  pointwise [k0_pay6]
  simp only [e7, e8, e9]

/-- A strip of 144 rows of what is laid down. -/
abbrev strip (c : Dev nD) (t : Fin cfg0.N) (o : Fin 2 → Nat) (inb : ∀ a, o a + S144x256.size a ≤ S288x1024.size a) :
    Vec Ideal S144x256 .f32 :=
  (View.whole cc0_scratch0).readCov (laid m c t) (Rect.unit (s := S288x1024) o S144x256.size inb).toLoadRect

/-- An element of a strip is a position of the padded products. -/
theorem strip_apply (c : Dev nD) (t : Fin cfg0.N) (b : Fin 2) (hb : b.val = t.val / 32) (o p : Nat)
    (inb : ∀ a, ![o, p] a + S144x256.size a ≤ S288x1024.size a) (a : Fin 144) (l : Fin 256) (k : Fin 1024)
    (hk : k.val = p + l.val) (P : Nat) (hP : P = t.val % 32 * 256 + (o + a.val)) :
    strip m c t ![o, p] inb (ix2 a l) = Halo.ext (prod (m ((c : Thread nD τ).loc main_arg0)) b k) P := by
  have i0 : o + 144 ≤ 288 := inb 0
  rw [strip, View.readCov_eq_canon']
  have e : (Rect.unit (s := S288x1024) ![o, p] S144x256.size inb).toLoadRect.idx (ix2 a l)
      = (ix2 ⟨o + a.val, by omega⟩ k : S288x1024.Idx) := by
    refine funext fun q => Fin.ext ((Rect.idx_unit_val _ _ _ _ q).trans ?_)
    match q with
    | ⟨0, _⟩ => rfl
    | ⟨1, _⟩ => exact hk.symm
  show View.canon _ _ = _
  rw [e, hP]
  exact laid_apply m c t b hb _

/-- The block a point writes. -/
def block (g : S1x256x1024.Idx → EReal) (w : S3x1024.Idx → EReal) (f : Fin 1024 → Fin 8192 → EReal) (s : Nat)
    (j : S1x256x1024.Idx) : EReal :=
  g j * Halo.conv3 (fun q => w (ix2 q (j 2))) (f (j 2)) (s + (j 1).val)

/-- A tile is its part of the block. -/
theorem tile_eq (c : Dev nD) (t : Fin cfg0.N) (b : Fin 2) (hb : b.val = t.val / 32) (o r p : Nat) (ho : o = r + 8)
    (inb : ∀ a, ![o, p] a + S144x256.size a ≤ S288x1024.size a) (inb1 : ∀ a, ![0, p] a + S3x256.size a ≤ S3x1024.size a)
    (inb2 : ∀ a, ![0, r, p] a + S1x128x256.size a ≤ S1x256x1024.size a) (x : S1x128x256.Idx) :
    k0_pay6 (F := Ideal) (strip m c t ![o, p] inb) (View.ld (iblk m c 7 t) (Rect.unit (s := S3x1024) ![0, p] S3x256.size inb1))
        (View.ld (iblk m c 0 t) (Rect.unit (s := S1x256x1024) ![0, r, p] S1x128x256.size inb2)) x
      = block (iblk m c 0 t) (iblk m c 7 t) (prod (m ((c : Thread nD τ).loc main_arg0)) b) (t.val % 32 * 256)
        ((Rect.unit (s := S1x256x1024) ![0, r, p] S1x128x256.size inb2).emb x) := by
  have x1 : (x 1).val < 128 := (x 1).isLt
  have e := fun a => Rect.idx_unit_val (s := S1x256x1024) ![0, r, p] S1x128x256.size inb2 x a
  have e1 : ((Rect.unit (s := S1x256x1024) ![0, r, p] S1x128x256.size inb2).emb x 1).val = r + (x 1).val := e 1
  have e2 : ((Rect.unit (s := S1x256x1024) ![0, r, p] S1x128x256.size inb2).emb x 2).val = p + (x 2).val := e 2
  have hw (q : Fin 3) : View.ld (iblk m c 7 t) (Rect.unit (s := S3x1024) ![0, p] S3x256.size inb1) (ix2 q (x 2))
      = iblk m c 7 t (ix2 q ((Rect.unit (s := S1x256x1024) ![0, r, p] S1x128x256.size inb2).emb x 2)) := by
    refine View.ld_unit_apply_of (iblk m c 7 t) _ _ inb1 _ _ fun a => ?_
    match a with
    | ⟨0, _⟩ => exact (Nat.zero_add _).symm
    | ⟨1, _⟩ => exact e2
  rw [pay6_apply, hw, hw, hw,
    strip_apply m c t b hb o p inb _ _ _ e2 (t.val % 32 * 256 + (r + (x 1).val) + 15) (by dsimp only; omega),
    strip_apply m c t b hb o p inb _ _ _ e2 (t.val % 32 * 256 + (r + (x 1).val) + 16) (by dsimp only; omega),
    strip_apply m c t b hb o p inb _ _ _ e2 (t.val % 32 * 256 + (r + (x 1).val) + 17) (by dsimp only; omega)]
  unfold block Halo.conv3
  rw [e1]
  rfl

/-- The block after the point. -/
theorem out_apply (c : Dev nD) (t : Fin cfg0.N) (b : Fin 2) (hb : b.val = t.val / 32) (j : S1x256x1024.Idx) :
    outsAt0 m c t j
      = block (iblk m c 0 t) (iblk m c 7 t) (prod (m ((c : Thread nD τ).loc main_arg0)) b) (t.val % 32 * 256) j := by
  unfold outsAt0
  frame_out
  refine View.canon_apply_of_pieces (Val := Elt Ideal) (e := .bf16) (block (iblk m c 0 t) (iblk m c 7 t)
    (prod (m ((c : Thread nD τ).loc main_arg0)) b) (t.val % 32 * 256)) _ ?_ _
    (View.cover_of_tiledBy _ ![1, 128, 256] (by sl_kernel_rfl) j)
  repeat' refine List.forall_mem_cons.mpr ⟨fun x => ?_, ?_⟩
  · exact tile_eq m c t b hb 136 128 768 rfl _ _ _ x
  · exact tile_eq m c t b hb 8 0 768 rfl _ _ _ x
  · exact tile_eq m c t b hb 136 128 512 rfl _ _ _ x
  · exact tile_eq m c t b hb 8 0 512 rfl _ _ _ x
  · exact tile_eq m c t b hb 136 128 256 rfl _ _ _ x
  · exact tile_eq m c t b hb 8 0 256 rfl _ _ _ x
  · exact tile_eq m c t b hb 136 128 0 rfl _ _ _ x
  · exact tile_eq m c t b hb 8 0 0 rfl _ _ _ x
  · exact fun _ h => absurd h List.not_mem_nil

/-- The result array after the run. -/
theorem final (c : Dev nD) : (dats m 0 c).arrAt 8 cfg0.N
    = gated (m ((c : Thread nD τ).loc main_arg0)) (m ((c : Thread nD τ).loc main_arg1)) := by
  refine (dats m 0 c).arrAt_eq_of_covers 8 _ (by decide +kernel) fun t hf y => ?_
  obtain ⟨g0, g1, g2, -⟩ := idx t
  obtain ⟨w0, w1, e0, e1, e2, -⟩ := idx' t
  have hN : t.val < 64 := lt_of_lt_of_eq t.isLt N_0
  blk_simp
  rw [after0_8]
  refine (out_apply m c t ⟨t.val / 32, by omega⟩ rfl y).trans ?_
  have r0 : ((win0_8.blk t).view.emb y 0).val = t.val / 32 := by
    blk_simp; rw [e0]
  have r1 : ((win0_8.blk t).view.emb y 1).val = t.val % 32 * 256 + (y 1).val := by blk_simp; rw [e1]
  have r2 : ((win0_8.blk t).view.emb y 2).val = (y 2).val := by blk_simp; rw [e2]; omega
  have s0 : (win0_8.blk t).view.emb y 0 = (⟨t.val / 32, by omega⟩ : Fin 2) := Fin.ext r0
  have s2 : (win0_8.blk t).view.emb y 2 = (y 2 : Fin 1024) := Fin.ext r2
  unfold block gated
  refine congrArg₂ (fun a b : EReal => a * b) ?_ (Halo.conv3_congr (fun q => ?_) ?_ r1.symm)
  · blk_simp [iblk]
    refine congrArg (m ((c : Thread nD τ).loc main_arg0)) ?_
    blk_ext [g0, g1, g2, r0, r1, r2]
  · blk_simp [iblk]
    refine congrArg (m ((c : Thread nD τ).loc main_arg1)) ?_
    blk_ext [w0, w1, r2]
  · rw [s0, s2]

end Cert.ShortConv

end
-- ==== Proof.SconvRef.lean ====
module

public import proofs.«01_k».proof.Proof.SconvValue
public import proofs.«01_k».proof.Proof.Gen.Reference8Ideal.Read

/-! The reference of the short gated convolution, entry by entry. -/

@[expose] public section

noncomputable section

namespace Cert.ShortConv

open Idealize.ShloMosaic Idealize.ShloMosaic.TcCoe
open Cert.Reference8Ideal Cert.Reference8Ideal.Gen Cert.Reference8Ideal.Read

variable (U : FVec Ideal S2x8192x11264 .bf16) (W : FVec Ideal S3x1024 .f32)

/-- The convolved product. -/
theorem prod_ref (i : S2x8192x1024.Idx) : val_main_v5 (F := Ideal) U i = prod U (i 0) (i 2) (i 1) := by
  pointwise [val_main_v5, val_main_v4, val_main_v3, val_main_v1, val_main_v0]
  unfold prod
  congr 1
  · refine congrArg U (funext fun a => Fin.ext ?_)
    match a with
    | ⟨0, _⟩ => rfl
    | ⟨1, _⟩ => rfl
    | ⟨2, _⟩ => show 8192 + (1024 + (i 2).val) = 9216 + (i 2).val; omega
  · refine congrArg U (funext fun a => Fin.ext ?_)
    match a with
    | ⟨0, _⟩ => rfl
    | ⟨1, _⟩ => rfl
    | ⟨2, _⟩ => show 8192 + (2048 + (i 2).val) = 10240 + (i 2).val; omega

/-- The products shifted one position later: zero at the start of a sequence. -/
theorem before_ref (i : S2x8192x1024.Idx) :
    val_main_v9 (F := Ideal) U i = Halo.ext (prod U (i 0) (i 2)) ((i 1).val + 15) := by
  have i1 : (i 1).val < 8192 := (i 1).isLt
  pointwise [val_main_v9, val_main_v8, val_main_v7, val_main_cst]
  by_cases h : (i 1).val < 1
  · rw [dif_pos h, Halo.ext_out _ _ (by omega)]
  · rw [dif_neg h, Halo.ext_in _ _ ⟨(i 1).val - 1, by omega⟩ (by dsimp only; omega)]
    exact prod_ref U _

/-- The products shifted one position earlier: zero at the end of a sequence. -/
theorem after_ref (i : S2x8192x1024.Idx) :
    val_main_v11 (F := Ideal) U i = Halo.ext (prod U (i 0) (i 2)) ((i 1).val + 17) := by
  have i1 : (i 1).val < 8192 := (i 1).isLt
  pointwise [val_main_v11, val_main_v10, val_main_v7, val_main_cst]
  by_cases h : (i 1).val < 8191
  · rw [dif_pos h, Halo.ext_in _ _ ⟨1 + (i 1).val, by omega⟩ (by dsimp only; omega)]
    exact prod_ref U _
  · rw [dif_neg h, Halo.ext_out _ _ (by omega)]

/-- The three taps spread over the positions. -/
theorem taps_ref (i : S2x8192x1024.Idx) : val_main_v15 (F := Ideal) W i = W (ix2 0 (i 2))
    ∧ val_main_v20 (F := Ideal) W i = W (ix2 1 (i 2)) ∧ val_main_v26 (F := Ideal) W i = W (ix2 2 (i 2)) := by
  refine ⟨?_, ?_, ?_⟩
  · pointwise [val_main_v15, val_main_v14, val_main_v13, val_main_v12]
  · pointwise [val_main_v20, val_main_v19, val_main_v18, val_main_v17]
  · pointwise [val_main_v26, val_main_v25, val_main_v24, val_main_v23]

/-- The reference's convolution. -/
theorem conv_ref (i : S2x8192x1024.Idx) : val_main_v28 (F := Ideal) U W i
    = Halo.conv3 (fun q => W (ix2 q (i 2))) (prod U (i 0) (i 2)) (i 1).val := by
  obtain ⟨t0, t1, t2⟩ := taps_ref W i
  have i1 : (i 1).val < 8192 := (i 1).isLt
  rw [val_main_v28_apply, val_main_v22_apply, val_main_v16_apply, val_main_v21_apply, val_main_v27_apply, t0, t1, t2,
    before_ref, after_ref, prod_ref]
  unfold Halo.conv3
  rw [Halo.ext_in _ _ (i 1) rfl]
  rfl

/-- The reference's result. -/
theorem ref_eq : val_main_v30 (F := Ideal) U W = gated U W := by
  funext i
  pointwise [val_main_v30, val_main_v29]
  unfold gated
  refine congrArg₂ (fun a b : EReal => a * b) ?_ (conv_ref U W i)
  pointwise [val_main_v2, val_main_v1, val_main_v0]

end Cert.ShortConv

end
-- ==== Proof.SconvEq.lean ====
module

public import proofs.«01_k».proof.Proof.SconvRef
public import proofs.«01_k».proof.Proof.Gen.Reference8Ideal.Run
public import Idealize.ShloMosaic.Adequacy
public import Idealize.ShloMosaic.Init
public import Idealize.ShloMosaic.Lib.Quiescent

/-! The short gated convolution: the kernel's run and the reference's leave the same array. -/

@[expose] public section

noncomputable section

namespace Cert.ShortConv

open Idealize.ShloMosaic Idealize.ShloMosaic.TcCoe Idealize.SL.Sem

/-- The reference runs to its end and keeps its arguments. -/
theorem reference_runs : quiescent_Reference8Ideal := fun m ρ _ =>
  (θ_run Reference8Ideal.defs _ _).mono (fun r h => ⟨fun c => (h c).2, sem_eq_zero_of_no_sems (by decide) r.2⟩)
    (Reference8Ideal.Value.run (F := Ideal) m ρ)

/-- The kernel and the reference leave the same arrays. -/
theorem equal : algebraic_Kernel8Ideal_Reference8Ideal := by
  intro m ρ m' ρ' _ hagree
  refine ⟨fun c => gated (m ((c.tc : Thread Kernel8Ideal.nD Kernel8Ideal.τ).loc Kernel8Ideal.main_arg0)) (m ((c.tc : Thread Kernel8Ideal.nD Kernel8Ideal.τ).loc Kernel8Ideal.main_arg1)),
    (θ_run Kernel8Ideal.defs _ _).mono (fun r h c => ⟨(h c).1.trans (final m c), (h c).2⟩) (Kernel8Ideal.Value.run_blocks (F := Ideal) m ρ), ?_⟩
  refine (θ_run Reference8Ideal.defs _ _).mono (fun r h c => ⟨(h c).1.trans ?_, (h c).2⟩) (Reference8Ideal.Value.run (F := Ideal) m' ρ')
  rw [Reference8Ideal.Read.val_main_v30_eq, ref_eq]
  obtain ⟨h0, h1⟩ := hagree c
  rw [h0, h1]

end Cert.ShortConv

end
-- ==== Proof.HshortValue.lean ====
module

public import proofs.«01_k».proof.Proof.Halo
public import proofs.«01_k».proof.Proof.Gen.Kernel9Ideal.Value
public import Idealize.ShloMosaic.Lib.Pipeline.ValueKit

/-!
Hyena's short convolution: the three arrays after the run, entry by entry. A point lays down a block of 256 rows of 6144
columns with sixteen neighbours on each side, zeros beyond a sequence's ends, and writes the convolution of each third of
the columns in sixteen tiles.
-/

@[expose] public section

noncomputable section

namespace Cert.HyenaShort

open Idealize.ShloMosaic Idealize.ShloMosaic.TcCoe Idealize.SL.Sem
open Cert.Kernel9Ideal Cert.Kernel9Ideal.Gen Cert.Kernel9Ideal.Value

/-- Column `k` of sequence `b`. -/
def col (U : S2x8192x11264.Idx → EReal) (b : Fin 2) (k : Fin 6144) (s : Fin 8192) : EReal :=
  U (ix3 b s ⟨k.val, by omega⟩)

/-- The convolution of column `o + k`, `o` one of the thirds' offsets. -/
def conv (U : S2x8192x11264.Idx → EReal) (W : S3x6144.Idx → EReal) (o : Nat) (ho : o ≤ 4096) (i : S2x8192x2048.Idx) :
    EReal :=
  Halo.conv3 (fun q => W (ix2 q ⟨o + (i 2).val, by have h : (i 2).val < 2048 := (i 2).isLt; omega⟩))
    (col U (i 0) ⟨o + (i 2).val, by have h : (i 2).val < 2048 := (i 2).isLt; omega⟩) (i 1).val

/-- The rows before the block are zeros at the start of a sequence. -/
theorem pay1_apply (i : grid0.Coords) (x : Vec Ideal S1x16x6144 .bf16) (j : S16x6144.Idx) :
    k0_pay1 (F := Ideal) i x j = if (i 1).val = 0 then 0 else x (ix3 0 (j 0) (j 1)) := by
  pointwise [k0_pay1]
  have hq : (i 1).val < 32 := (i 1).isLt
  generalize (i 1).val = q at hq
  generalize x _ = z
  interval_cases q <;> rfl

/-- The block's own rows. -/
theorem pay2_apply (x : Vec Ideal S1x256x6144 .bf16) (j : S256x6144.Idx) :
    k0_pay2 (F := Ideal) x j = x (ix3 0 (j 0) (j 1)) := by
  pointwise [k0_pay2]

/-- The rows after the block are zeros at the end of a sequence. -/
theorem pay3_apply (i : grid0.Coords) (x : Vec Ideal S1x16x6144 .bf16) (j : S16x6144.Idx) :
    k0_pay3 (F := Ideal) i x j = if (i 1).val = 31 then 0 else x (ix3 0 (j 0) (j 1)) := by
  pointwise [k0_pay3]
  have hq : (i 1).val < 32 := (i 1).isLt
  generalize (i 1).val = q at hq
  generalize x _ = z
  interval_cases q <;> rfl

/-- The windows over the grid: a row block's neighbours are clamped at the array's ends. -/
theorem idx : ∀ t : Fin cfg0.N,
    win0_0.index t 0 = t.val / 32 ∧ win0_0.index t 1 = t.val % 32 * 16 - 1 ∧ win0_0.index t 2 = 0
    ∧ win0_1.index t 0 = t.val / 32 ∧ win0_1.index t 1 = t.val % 32 ∧ win0_1.index t 2 = 0
    ∧ win0_2.index t 0 = t.val / 32 ∧ win0_2.index t 1 = min (t.val % 32 * 16 + 16) 511 ∧ win0_2.index t 2 = 0
    ∧ win0_3.index t 0 = 0 ∧ win0_3.index t 1 = 0 ∧ (grid0.coords t 1).val = t.val % 32 :=
  (by decide +kernel : ∀ t : Fin grid0.N, _)

/-- The results' windows. -/
theorem idx' : ∀ t : Fin cfg0.N,
    (win0_4.index t 0 = t.val / 32 ∧ win0_4.index t 1 = t.val % 32 ∧ win0_4.index t 2 = 0)
    ∧ (win0_5.index t 0 = t.val / 32 ∧ win0_5.index t 1 = t.val % 32 ∧ win0_5.index t 2 = 0)
    ∧ win0_6.index t 0 = t.val / 32 ∧ win0_6.index t 1 = t.val % 32 ∧ win0_6.index t 2 = 0 :=
  (by decide +kernel : ∀ t : Fin grid0.N, _)

variable (m : (ℓ : Loc nD τ sig) → Buf (Elt Ideal) ℓ)

/-- The three parts of the rows as they are laid down. -/
abbrev laid (c : Dev nD) (t : Fin cfg0.N) : List (View.Piece (Elt Ideal) S288x6144 .f32) :=
  [⟨Rect.unit ![272, 0] ![16, 6144] inb_S288x6144_S16x6144_272_0, k0_pay3 (grid0.coords t) (X0_2 m c t)⟩,
    ⟨Rect.unit ![16, 0] ![256, 6144] inb_S288x6144_S256x6144_16_0, k0_pay2 (X0_1 m c t)⟩,
    ⟨Rect.unit ![0, 0] ![16, 6144] inb_S288x6144_S16x6144_0_0, k0_pay1 (grid0.coords t) (X0_0 m c t)⟩]

/-- What is laid down at a point is a part of the padded columns. -/
theorem laid_apply (c : Dev nD) (t : Fin cfg0.N) (b : Fin 2) (hb : b.val = t.val / 32) (j : S288x6144.Idx) :
    View.canon (laid m c t) j
      = Halo.ext (col (m ((c : Thread nD τ).loc main_arg0)) b (j 1)) (t.val % 32 * 256 + (j 0).val) := by
  obtain ⟨e0, e1, e2, e3, e4, e5, e6, e7, e8, -, -, g⟩ := idx t
  have j1 : (j 1).val < 6144 := (j 1).isLt
  canon_tiles x h using View.cover_of_tiledBy (laid m c t) ![16, 6144] (by sl_kernel_rfl) j
  · have hx : (x 0).val < 16 := (x 0).isLt
    refine (pay3_apply _ _ x).trans ?_
    rw [g]
    by_cases hz : t.val % 32 = 31
    · rw [if_pos hz, Halo.ext_out _ _ (by omega)]
    · rw [if_neg hz, Halo.ext_in _ _ ⟨t.val % 32 * 256 + 256 + (x 0).val, by omega⟩ (by show _ = _ + 16; dsimp only; omega)]
      unfold col
      unfold X0_2 Pipeline.Window.fill
      rw [dif_pos (moved0_2 t _)]
      blk_simp [iblk]
      refine congrArg (m ((c : Thread nD τ).loc main_arg0)) ?_
      blk_ext [e6, e7, e8, hb]
  · have hx : (x 0).val < 256 := (x 0).isLt
    refine (pay2_apply _ x).trans ?_
    rw [Halo.ext_in _ _ ⟨t.val % 32 * 256 + (x 0).val, by omega⟩ (by show _ = _ + 16; dsimp only; omega)]
    unfold col
    unfold X0_1 Pipeline.Window.fill
    rw [dif_pos (moved0_1 t _)]
    blk_simp [iblk]
    refine congrArg (m ((c : Thread nD τ).loc main_arg0)) ?_
    blk_ext [e3, e4, e5, hb]
  · have hx : (x 0).val < 16 := (x 0).isLt
    refine (pay1_apply _ _ x).trans ?_
    rw [g]
    by_cases hz : t.val % 32 = 0
    · rw [if_pos hz, Halo.ext_out _ _ (by omega)]
    · rw [if_neg hz, Halo.ext_in _ _ ⟨t.val % 32 * 256 + (x 0).val - 16, by omega⟩ (by show _ = _ + 16; dsimp only; omega)]
      unfold col
      unfold X0_0 Pipeline.Window.fill
      rw [dif_pos (moved0_0 t _)]
      blk_simp [iblk]
      refine congrArg (m ((c : Thread nD τ).loc main_arg0)) ?_
      blk_ext [e0, e1, e2, hb]

/-- One tile: the rows of a strip of what is laid down, convolved by turning the strip. -/
theorem pay7_apply (x : Vec Ideal S144x256 .f32) (w : Vec Ideal S3x256 .f32) (j : S1x128x256.Idx) :
    k0_pay7 (F := Ideal) x w j
      = w (ix2 0 (j 2)) * x (ix2 ⟨(j 1).val + 7, by have h : (j 1).val < 128 := (j 1).isLt; omega⟩ (j 2))
        + w (ix2 1 (j 2)) * x (ix2 ⟨(j 1).val + 8, by have h : (j 1).val < 128 := (j 1).isLt; omega⟩ (j 2))
        + w (ix2 2 (j 2)) * x (ix2 ⟨(j 1).val + 9, by have h : (j 1).val < 128 := (j 1).isLt; omega⟩ (j 2)) := by
  have h : (j 1).val < 128 := (j 1).isLt
  have e7 : ((j 1).val + 8 + 144 - 1) % 144 = (j 1).val + 7 := by omega
  have e8 : 8 + (j 1).val = (j 1).val + 8 := by omega
  have e9 : ((j 1).val + 8 + 144 - 143) % 144 = (j 1).val + 9 := by omega
  pointwise [k0_pay7]
  simp only [e7, e8, e9]

/-- A strip of 144 rows of what is laid down. -/
abbrev strip (c : Dev nD) (t : Fin cfg0.N) (o : Fin 2 → Nat) (inb : ∀ a, o a + S144x256.size a ≤ S288x6144.size a) :
    Vec Ideal S144x256 .f32 :=
  (View.whole cc0_scratch0).readCov (laid m c t) (Rect.unit (s := S288x6144) o S144x256.size inb).toLoadRect

/-- An element of a strip is a position of the padded columns. -/
theorem strip_apply (c : Dev nD) (t : Fin cfg0.N) (b : Fin 2) (hb : b.val = t.val / 32) (o p : Nat)
    (inb : ∀ a, ![o, p] a + S144x256.size a ≤ S288x6144.size a) (a : Fin 144) (l : Fin 256) (k : Fin 6144)
    (hk : k.val = p + l.val) (P : Nat) (hP : P = t.val % 32 * 256 + (o + a.val)) :
    strip m c t ![o, p] inb (ix2 a l) = Halo.ext (col (m ((c : Thread nD τ).loc main_arg0)) b k) P := by
  have i0 : o + 144 ≤ 288 := inb 0
  rw [strip, View.readCov_eq_canon']
  have e : (Rect.unit (s := S288x6144) ![o, p] S144x256.size inb).toLoadRect.idx (ix2 a l)
      = (ix2 ⟨o + a.val, by omega⟩ k : S288x6144.Idx) := by
    refine funext fun q => Fin.ext ((Rect.idx_unit_val _ _ _ _ q).trans ?_)
    match q with
    | ⟨0, _⟩ => rfl
    | ⟨1, _⟩ => exact hk.symm
  show View.canon _ _ = _
  rw [e, hP]
  exact laid_apply m c t b hb _

/-- The block a point writes, of the third of the columns at offset `o`. -/
def block (w : S3x6144.Idx → EReal) (f : Fin 6144 → Fin 8192 → EReal) (s o : Nat) (ho : o ≤ 4096)
    (j : S1x256x2048.Idx) : EReal :=
  Halo.conv3 (fun q => w (ix2 q ⟨o + (j 2).val, by have h : (j 2).val < 2048 := (j 2).isLt; omega⟩))
    (f ⟨o + (j 2).val, by have h : (j 2).val < 2048 := (j 2).isLt; omega⟩) (s + (j 1).val)

/-- A tile is its part of the block. -/
theorem tile_eq (c : Dev nD) (t : Fin cfg0.N) (b : Fin 2) (hb : b.val = t.val / 32) (o r p d n : Nat) (ho : o = r + 8)
    (hp : p = d + n) (hd : d ≤ 4096) (inb : ∀ a, ![o, p] a + S144x256.size a ≤ S288x6144.size a)
    (inb1 : ∀ a, ![0, p] a + S3x256.size a ≤ S3x6144.size a)
    (inb2 : ∀ a, ![0, r, n] a + S1x128x256.size a ≤ S1x256x2048.size a) (x : S1x128x256.Idx) :
    k0_pay7 (F := Ideal) (strip m c t ![o, p] inb) (View.ld (iblk m c 3 t) (Rect.unit (s := S3x6144) ![0, p] S3x256.size inb1)) x
      = block (iblk m c 3 t) (col (m ((c : Thread nD τ).loc main_arg0)) b) (t.val % 32 * 256) d hd
          ((Rect.unit (s := S1x256x2048) ![0, r, n] S1x128x256.size inb2).emb x) := by
  have x1 : (x 1).val < 128 := (x 1).isLt
  have x2 : (x 2).val < 256 := (x 2).isLt
  have i2 : n + 256 ≤ 2048 := inb2 2
  have e := fun a => Rect.idx_unit_val (s := S1x256x2048) ![0, r, n] S1x128x256.size inb2 x a
  have e1 : ((Rect.unit (s := S1x256x2048) ![0, r, n] S1x128x256.size inb2).emb x 1).val = r + (x 1).val := e 1
  have e2 : ((Rect.unit (s := S1x256x2048) ![0, r, n] S1x128x256.size inb2).emb x 2).val = n + (x 2).val := e 2
  have hk (h : d + ((Rect.unit (s := S1x256x2048) ![0, r, n] S1x128x256.size inb2).emb x 2).val < 6144) :
      (⟨d + ((Rect.unit (s := S1x256x2048) ![0, r, n] S1x128x256.size inb2).emb x 2).val, h⟩ : Fin 6144)
        = ⟨p + (x 2).val, by omega⟩ := Fin.ext (by show d + _ = p + _; rw [e2]; omega)
  have hw (q : Fin 3) : View.ld (iblk m c 3 t) (Rect.unit (s := S3x6144) ![0, p] S3x256.size inb1) (ix2 q (x 2))
      = iblk m c 3 t (ix2 q (⟨p + (x 2).val, by omega⟩ : Fin 6144)) := by
    refine View.ld_unit_apply_of (iblk m c 3 t) _ _ inb1 _ _ fun a => ?_
    match a with
    | ⟨0, _⟩ => exact (Nat.zero_add _).symm
    | ⟨1, _⟩ => rfl
  rw [pay7_apply, hw, hw, hw,
    strip_apply m c t b hb o p inb _ _ ⟨p + (x 2).val, by omega⟩ rfl (t.val % 32 * 256 + (r + (x 1).val) + 15) (by dsimp only; omega),
    strip_apply m c t b hb o p inb _ _ ⟨p + (x 2).val, by omega⟩ rfl (t.val % 32 * 256 + (r + (x 1).val) + 16) (by dsimp only; omega),
    strip_apply m c t b hb o p inb _ _ ⟨p + (x 2).val, by omega⟩ rfl (t.val % 32 * 256 + (r + (x 1).val) + 17) (by dsimp only; omega)]
  unfold block Halo.conv3
  rw [e1, hk]

/-- The value's block after the point. -/
theorem out4_apply (c : Dev nD) (t : Fin cfg0.N) (b : Fin 2) (hb : b.val = t.val / 32) (j : S1x256x2048.Idx) :
    (outsAt0 m c t).1 j = block (iblk m c 3 t) (col (m ((c : Thread nD τ).loc main_arg0)) b) (t.val % 32 * 256) 0
      (by decide) j := by
  unfold outsAt0
  frame_out
  refine View.canon_apply_of_pieces (Val := Elt Ideal) (e := .f32) (block (iblk m c 3 t)
    (col (m ((c : Thread nD τ).loc main_arg0)) b) (t.val % 32 * 256) 0 (by decide)) _ ?_ _
    (View.cover_of_tiledBy _ ![1, 128, 256] (by sl_kernel_rfl) j)
  repeat' refine List.forall_mem_cons.mpr ⟨fun x => ?_, ?_⟩
  · exact tile_eq m c t b hb 136 128 1792 0 1792 rfl rfl (by decide) inb_S288x6144_S144x256_136_1792 inb_S3x6144_S3x256_0_1792
      inb_S1x256x2048_S1x128x256_0_128_1792 x
  · exact tile_eq m c t b hb 8 0 1792 0 1792 rfl rfl (by decide) inb_S288x6144_S144x256_8_1792 inb_S3x6144_S3x256_0_1792
      inb_S1x256x2048_S1x128x256_0_0_1792 x
  · exact tile_eq m c t b hb 136 128 1536 0 1536 rfl rfl (by decide) inb_S288x6144_S144x256_136_1536 inb_S3x6144_S3x256_0_1536
      inb_S1x256x2048_S1x128x256_0_128_1536 x
  · exact tile_eq m c t b hb 8 0 1536 0 1536 rfl rfl (by decide) inb_S288x6144_S144x256_8_1536 inb_S3x6144_S3x256_0_1536
      inb_S1x256x2048_S1x128x256_0_0_1536 x
  · exact tile_eq m c t b hb 136 128 1280 0 1280 rfl rfl (by decide) inb_S288x6144_S144x256_136_1280 inb_S3x6144_S3x256_0_1280
      inb_S1x256x2048_S1x128x256_0_128_1280 x
  · exact tile_eq m c t b hb 8 0 1280 0 1280 rfl rfl (by decide) inb_S288x6144_S144x256_8_1280 inb_S3x6144_S3x256_0_1280
      inb_S1x256x2048_S1x128x256_0_0_1280 x
  · exact tile_eq m c t b hb 136 128 1024 0 1024 rfl rfl (by decide) inb_S288x6144_S144x256_136_1024 inb_S3x6144_S3x256_0_1024
      inb_S1x256x2048_S1x128x256_0_128_1024 x
  · exact tile_eq m c t b hb 8 0 1024 0 1024 rfl rfl (by decide) inb_S288x6144_S144x256_8_1024 inb_S3x6144_S3x256_0_1024
      inb_S1x256x2048_S1x128x256_0_0_1024 x
  · exact tile_eq m c t b hb 136 128 768 0 768 rfl rfl (by decide) inb_S288x6144_S144x256_136_768 inb_S3x6144_S3x256_0_768
      inb_S1x256x2048_S1x128x256_0_128_768 x
  · exact tile_eq m c t b hb 8 0 768 0 768 rfl rfl (by decide) inb_S288x6144_S144x256_8_768 inb_S3x6144_S3x256_0_768
      inb_S1x256x2048_S1x128x256_0_0_768 x
  · exact tile_eq m c t b hb 136 128 512 0 512 rfl rfl (by decide) inb_S288x6144_S144x256_136_512 inb_S3x6144_S3x256_0_512
      inb_S1x256x2048_S1x128x256_0_128_512 x
  · exact tile_eq m c t b hb 8 0 512 0 512 rfl rfl (by decide) inb_S288x6144_S144x256_8_512 inb_S3x6144_S3x256_0_512
      inb_S1x256x2048_S1x128x256_0_0_512 x
  · exact tile_eq m c t b hb 136 128 256 0 256 rfl rfl (by decide) inb_S288x6144_S144x256_136_256 inb_S3x6144_S3x256_0_256
      inb_S1x256x2048_S1x128x256_0_128_256 x
  · exact tile_eq m c t b hb 8 0 256 0 256 rfl rfl (by decide) inb_S288x6144_S144x256_8_256 inb_S3x6144_S3x256_0_256
      inb_S1x256x2048_S1x128x256_0_0_256 x
  · exact tile_eq m c t b hb 136 128 0 0 0 rfl rfl (by decide) inb_S288x6144_S144x256_136_0 inb_S3x6144_S3x256_0_0
      inb_S1x256x2048_S1x128x256_0_128_0 x
  · exact tile_eq m c t b hb 8 0 0 0 0 rfl rfl (by decide) inb_S288x6144_S144x256_8_0 inb_S3x6144_S3x256_0_0
      inb_S1x256x2048_S1x128x256_0_0_0 x
  · exact fun _ h => absurd h List.not_mem_nil

/-- The value's array after the run. -/
theorem final4 (c : Dev nD) : (dats m 0 c).arrAt 4 cfg0.N
    = conv (m ((c : Thread nD τ).loc main_arg0)) (m ((c : Thread nD τ).loc main_arg1)) 0 (by decide) := by
  refine (dats m 0 c).arrAt_eq_of_covers 4 _ (by decide +kernel) fun t hf y => ?_
  obtain ⟨-, -, -, -, -, -, -, -, -, w0, w1, -⟩ := idx t
  obtain ⟨⟨e0, e1, e2⟩, -, -⟩ := idx' t
  have hN : t.val < 64 := lt_of_lt_of_eq t.isLt N_0
  blk_simp
  rw [after0_4]
  refine (out4_apply m c t ⟨t.val / 32, by omega⟩ rfl y).trans ?_
  have r0 : ((win0_4.blk t).view.emb y 0).val = t.val / 32 := by
    blk_simp; rw [e0]
  have r1 : ((win0_4.blk t).view.emb y 1).val = t.val % 32 * 256 + (y 1).val := by blk_simp; rw [e1]
  have r2 : ((win0_4.blk t).view.emb y 2).val = (y 2).val := by blk_simp; rw [e2]; omega
  have s0 : (win0_4.blk t).view.emb y 0 = (⟨t.val / 32, by omega⟩ : Fin 2) := Fin.ext r0
  have s2 : (win0_4.blk t).view.emb y 2 = (y 2 : Fin 2048) := Fin.ext r2
  unfold block conv
  refine Halo.conv3_congr (fun q => ?_) ?_ r1.symm
  · blk_simp [iblk]
    refine congrArg (m ((c : Thread nD τ).loc main_arg1)) ?_
    blk_ext [w0, w1, r2]
  · rw [s0]
    exact congrArg _ (Fin.ext (congrArg (fun v => 0 + v) r2.symm))

/-- The first gate's block after the point. -/
theorem out5_apply (c : Dev nD) (t : Fin cfg0.N) (b : Fin 2) (hb : b.val = t.val / 32) (j : S1x256x2048.Idx) :
    (outsAt0 m c t).2.1 j = block (iblk m c 3 t) (col (m ((c : Thread nD τ).loc main_arg0)) b) (t.val % 32 * 256) 2048
      (by decide) j := by
  unfold outsAt0
  frame_out
  refine View.canon_apply_of_pieces (Val := Elt Ideal) (e := .f32) (block (iblk m c 3 t)
    (col (m ((c : Thread nD τ).loc main_arg0)) b) (t.val % 32 * 256) 2048 (by decide)) _ ?_ _
    (View.cover_of_tiledBy _ ![1, 128, 256] (by sl_kernel_rfl) j)
  repeat' refine List.forall_mem_cons.mpr ⟨fun x => ?_, ?_⟩
  · exact tile_eq m c t b hb 136 128 3840 2048 1792 rfl rfl (by decide) inb_S288x6144_S144x256_136_3840 inb_S3x6144_S3x256_0_3840
      inb_S1x256x2048_S1x128x256_0_128_1792 x
  · exact tile_eq m c t b hb 8 0 3840 2048 1792 rfl rfl (by decide) inb_S288x6144_S144x256_8_3840 inb_S3x6144_S3x256_0_3840
      inb_S1x256x2048_S1x128x256_0_0_1792 x
  · exact tile_eq m c t b hb 136 128 3584 2048 1536 rfl rfl (by decide) inb_S288x6144_S144x256_136_3584 inb_S3x6144_S3x256_0_3584
      inb_S1x256x2048_S1x128x256_0_128_1536 x
  · exact tile_eq m c t b hb 8 0 3584 2048 1536 rfl rfl (by decide) inb_S288x6144_S144x256_8_3584 inb_S3x6144_S3x256_0_3584
      inb_S1x256x2048_S1x128x256_0_0_1536 x
  · exact tile_eq m c t b hb 136 128 3328 2048 1280 rfl rfl (by decide) inb_S288x6144_S144x256_136_3328 inb_S3x6144_S3x256_0_3328
      inb_S1x256x2048_S1x128x256_0_128_1280 x
  · exact tile_eq m c t b hb 8 0 3328 2048 1280 rfl rfl (by decide) inb_S288x6144_S144x256_8_3328 inb_S3x6144_S3x256_0_3328
      inb_S1x256x2048_S1x128x256_0_0_1280 x
  · exact tile_eq m c t b hb 136 128 3072 2048 1024 rfl rfl (by decide) inb_S288x6144_S144x256_136_3072 inb_S3x6144_S3x256_0_3072
      inb_S1x256x2048_S1x128x256_0_128_1024 x
  · exact tile_eq m c t b hb 8 0 3072 2048 1024 rfl rfl (by decide) inb_S288x6144_S144x256_8_3072 inb_S3x6144_S3x256_0_3072
      inb_S1x256x2048_S1x128x256_0_0_1024 x
  · exact tile_eq m c t b hb 136 128 2816 2048 768 rfl rfl (by decide) inb_S288x6144_S144x256_136_2816 inb_S3x6144_S3x256_0_2816
      inb_S1x256x2048_S1x128x256_0_128_768 x
  · exact tile_eq m c t b hb 8 0 2816 2048 768 rfl rfl (by decide) inb_S288x6144_S144x256_8_2816 inb_S3x6144_S3x256_0_2816
      inb_S1x256x2048_S1x128x256_0_0_768 x
  · exact tile_eq m c t b hb 136 128 2560 2048 512 rfl rfl (by decide) inb_S288x6144_S144x256_136_2560 inb_S3x6144_S3x256_0_2560
      inb_S1x256x2048_S1x128x256_0_128_512 x
  · exact tile_eq m c t b hb 8 0 2560 2048 512 rfl rfl (by decide) inb_S288x6144_S144x256_8_2560 inb_S3x6144_S3x256_0_2560
      inb_S1x256x2048_S1x128x256_0_0_512 x
  · exact tile_eq m c t b hb 136 128 2304 2048 256 rfl rfl (by decide) inb_S288x6144_S144x256_136_2304 inb_S3x6144_S3x256_0_2304
      inb_S1x256x2048_S1x128x256_0_128_256 x
  · exact tile_eq m c t b hb 8 0 2304 2048 256 rfl rfl (by decide) inb_S288x6144_S144x256_8_2304 inb_S3x6144_S3x256_0_2304
      inb_S1x256x2048_S1x128x256_0_0_256 x
  · exact tile_eq m c t b hb 136 128 2048 2048 0 rfl rfl (by decide) inb_S288x6144_S144x256_136_2048 inb_S3x6144_S3x256_0_2048
      inb_S1x256x2048_S1x128x256_0_128_0 x
  · exact tile_eq m c t b hb 8 0 2048 2048 0 rfl rfl (by decide) inb_S288x6144_S144x256_8_2048 inb_S3x6144_S3x256_0_2048
      inb_S1x256x2048_S1x128x256_0_0_0 x
  · exact fun _ h => absurd h List.not_mem_nil

/-- The first gate's array after the run. -/
theorem final5 (c : Dev nD) : (dats m 0 c).arrAt 5 cfg0.N
    = conv (m ((c : Thread nD τ).loc main_arg0)) (m ((c : Thread nD τ).loc main_arg1)) 2048 (by decide) := by
  refine (dats m 0 c).arrAt_eq_of_covers 5 _ (by decide +kernel) fun t hf y => ?_
  obtain ⟨-, -, -, -, -, -, -, -, -, w0, w1, -⟩ := idx t
  obtain ⟨-, ⟨e0, e1, e2⟩, -⟩ := idx' t
  have hN : t.val < 64 := lt_of_lt_of_eq t.isLt N_0
  blk_simp
  rw [after0_5]
  refine (out5_apply m c t ⟨t.val / 32, by omega⟩ rfl y).trans ?_
  have r0 : ((win0_5.blk t).view.emb y 0).val = t.val / 32 := by
    blk_simp; rw [e0]
  have r1 : ((win0_5.blk t).view.emb y 1).val = t.val % 32 * 256 + (y 1).val := by blk_simp; rw [e1]
  have r2 : ((win0_5.blk t).view.emb y 2).val = (y 2).val := by blk_simp; rw [e2]; omega
  have s0 : (win0_5.blk t).view.emb y 0 = (⟨t.val / 32, by omega⟩ : Fin 2) := Fin.ext r0
  have s2 : (win0_5.blk t).view.emb y 2 = (y 2 : Fin 2048) := Fin.ext r2
  unfold block conv
  refine Halo.conv3_congr (fun q => ?_) ?_ r1.symm
  · blk_simp [iblk]
    refine congrArg (m ((c : Thread nD τ).loc main_arg1)) ?_
    blk_ext [w0, w1, r2]
  · rw [s0]
    exact congrArg _ (Fin.ext (congrArg (fun v => 2048 + v) r2.symm))

/-- The second gate's block after the point. -/
theorem out6_apply (c : Dev nD) (t : Fin cfg0.N) (b : Fin 2) (hb : b.val = t.val / 32) (j : S1x256x2048.Idx) :
    (outsAt0 m c t).2.2 j = block (iblk m c 3 t) (col (m ((c : Thread nD τ).loc main_arg0)) b) (t.val % 32 * 256) 4096
      (by decide) j := by
  unfold outsAt0
  frame_out
  refine View.canon_apply_of_pieces (Val := Elt Ideal) (e := .f32) (block (iblk m c 3 t)
    (col (m ((c : Thread nD τ).loc main_arg0)) b) (t.val % 32 * 256) 4096 (by decide)) _ ?_ _
    (View.cover_of_tiledBy _ ![1, 128, 256] (by sl_kernel_rfl) j)
  repeat' refine List.forall_mem_cons.mpr ⟨fun x => ?_, ?_⟩
  · exact tile_eq m c t b hb 136 128 5888 4096 1792 rfl rfl (by decide) inb_S288x6144_S144x256_136_5888 inb_S3x6144_S3x256_0_5888
      inb_S1x256x2048_S1x128x256_0_128_1792 x
  · exact tile_eq m c t b hb 8 0 5888 4096 1792 rfl rfl (by decide) inb_S288x6144_S144x256_8_5888 inb_S3x6144_S3x256_0_5888
      inb_S1x256x2048_S1x128x256_0_0_1792 x
  · exact tile_eq m c t b hb 136 128 5632 4096 1536 rfl rfl (by decide) inb_S288x6144_S144x256_136_5632 inb_S3x6144_S3x256_0_5632
      inb_S1x256x2048_S1x128x256_0_128_1536 x
  · exact tile_eq m c t b hb 8 0 5632 4096 1536 rfl rfl (by decide) inb_S288x6144_S144x256_8_5632 inb_S3x6144_S3x256_0_5632
      inb_S1x256x2048_S1x128x256_0_0_1536 x
  · exact tile_eq m c t b hb 136 128 5376 4096 1280 rfl rfl (by decide) inb_S288x6144_S144x256_136_5376 inb_S3x6144_S3x256_0_5376
      inb_S1x256x2048_S1x128x256_0_128_1280 x
  · exact tile_eq m c t b hb 8 0 5376 4096 1280 rfl rfl (by decide) inb_S288x6144_S144x256_8_5376 inb_S3x6144_S3x256_0_5376
      inb_S1x256x2048_S1x128x256_0_0_1280 x
  · exact tile_eq m c t b hb 136 128 5120 4096 1024 rfl rfl (by decide) inb_S288x6144_S144x256_136_5120 inb_S3x6144_S3x256_0_5120
      inb_S1x256x2048_S1x128x256_0_128_1024 x
  · exact tile_eq m c t b hb 8 0 5120 4096 1024 rfl rfl (by decide) inb_S288x6144_S144x256_8_5120 inb_S3x6144_S3x256_0_5120
      inb_S1x256x2048_S1x128x256_0_0_1024 x
  · exact tile_eq m c t b hb 136 128 4864 4096 768 rfl rfl (by decide) inb_S288x6144_S144x256_136_4864 inb_S3x6144_S3x256_0_4864
      inb_S1x256x2048_S1x128x256_0_128_768 x
  · exact tile_eq m c t b hb 8 0 4864 4096 768 rfl rfl (by decide) inb_S288x6144_S144x256_8_4864 inb_S3x6144_S3x256_0_4864
      inb_S1x256x2048_S1x128x256_0_0_768 x
  · exact tile_eq m c t b hb 136 128 4608 4096 512 rfl rfl (by decide) inb_S288x6144_S144x256_136_4608 inb_S3x6144_S3x256_0_4608
      inb_S1x256x2048_S1x128x256_0_128_512 x
  · exact tile_eq m c t b hb 8 0 4608 4096 512 rfl rfl (by decide) inb_S288x6144_S144x256_8_4608 inb_S3x6144_S3x256_0_4608
      inb_S1x256x2048_S1x128x256_0_0_512 x
  · exact tile_eq m c t b hb 136 128 4352 4096 256 rfl rfl (by decide) inb_S288x6144_S144x256_136_4352 inb_S3x6144_S3x256_0_4352
      inb_S1x256x2048_S1x128x256_0_128_256 x
  · exact tile_eq m c t b hb 8 0 4352 4096 256 rfl rfl (by decide) inb_S288x6144_S144x256_8_4352 inb_S3x6144_S3x256_0_4352
      inb_S1x256x2048_S1x128x256_0_0_256 x
  · exact tile_eq m c t b hb 136 128 4096 4096 0 rfl rfl (by decide) inb_S288x6144_S144x256_136_4096 inb_S3x6144_S3x256_0_4096
      inb_S1x256x2048_S1x128x256_0_128_0 x
  · exact tile_eq m c t b hb 8 0 4096 4096 0 rfl rfl (by decide) inb_S288x6144_S144x256_8_4096 inb_S3x6144_S3x256_0_4096
      inb_S1x256x2048_S1x128x256_0_0_0 x
  · exact fun _ h => absurd h List.not_mem_nil

/-- The second gate's array after the run. -/
theorem final6 (c : Dev nD) : (dats m 0 c).arrAt 6 cfg0.N
    = conv (m ((c : Thread nD τ).loc main_arg0)) (m ((c : Thread nD τ).loc main_arg1)) 4096 (by decide) := by
  refine (dats m 0 c).arrAt_eq_of_covers 6 _ (by decide +kernel) fun t hf y => ?_
  obtain ⟨-, -, -, -, -, -, -, -, -, w0, w1, -⟩ := idx t
  obtain ⟨-, -, e0, e1, e2⟩ := idx' t
  have hN : t.val < 64 := lt_of_lt_of_eq t.isLt N_0
  blk_simp
  rw [after0_6]
  refine (out6_apply m c t ⟨t.val / 32, by omega⟩ rfl y).trans ?_
  have r0 : ((win0_6.blk t).view.emb y 0).val = t.val / 32 := by
    blk_simp; rw [e0]
  have r1 : ((win0_6.blk t).view.emb y 1).val = t.val % 32 * 256 + (y 1).val := by blk_simp; rw [e1]
  have r2 : ((win0_6.blk t).view.emb y 2).val = (y 2).val := by blk_simp; rw [e2]; omega
  have s0 : (win0_6.blk t).view.emb y 0 = (⟨t.val / 32, by omega⟩ : Fin 2) := Fin.ext r0
  have s2 : (win0_6.blk t).view.emb y 2 = (y 2 : Fin 2048) := Fin.ext r2
  unfold block conv
  refine Halo.conv3_congr (fun q => ?_) ?_ r1.symm
  · blk_simp [iblk]
    refine congrArg (m ((c : Thread nD τ).loc main_arg1)) ?_
    blk_ext [w0, w1, r2]
  · rw [s0]
    exact congrArg _ (Fin.ext (congrArg (fun v => 4096 + v) r2.symm))

end Cert.HyenaShort

end
-- ==== Proof.HshortRef.lean ====
module

public import proofs.«01_k».proof.Proof.HshortValue
public import proofs.«01_k».proof.Proof.Gen.Reference9Ideal.Read

/-! The reference of Hyena's short convolution, entry by entry. -/

@[expose] public section

noncomputable section

namespace Cert.HyenaShort

open Idealize.ShloMosaic Idealize.ShloMosaic.TcCoe
open Cert.Reference9Ideal Cert.Reference9Ideal.Gen Cert.Reference9Ideal.Read

variable (U : FVec Ideal S2x8192x11264 .bf16) (W : FVec Ideal S3x6144 .f32)

/-- The convolved columns. -/
theorem col_ref (i : S2x8192x6144.Idx) : val_main_v1 (F := Ideal) U i = col U (i 0) (i 2) (i 1) := by
  pointwise [val_main_v1, val_main_v0]
  unfold col
  refine congrArg U (funext fun a => ?_)
  match a with
  | ⟨0, _⟩ => rfl
  | ⟨1, _⟩ => rfl
  | ⟨2, _⟩ => rfl

/-- The columns shifted one position later: zero at the start of a sequence. -/
theorem before_ref (i : S2x8192x6144.Idx) :
    val_main_v5 (F := Ideal) U i = Halo.ext (col U (i 0) (i 2)) ((i 1).val + 15) := by
  have i1 : (i 1).val < 8192 := (i 1).isLt
  pointwise [val_main_v5, val_main_v4, val_main_v3, val_main_cst]
  by_cases h : (i 1).val < 1
  · rw [dif_pos h, Halo.ext_out _ _ (by omega)]
  · rw [dif_neg h, Halo.ext_in _ _ ⟨(i 1).val - 1, by omega⟩ (by dsimp only; omega)]
    exact col_ref U _

/-- The columns shifted one position earlier: zero at the end of a sequence. -/
theorem after_ref (i : S2x8192x6144.Idx) :
    val_main_v7 (F := Ideal) U i = Halo.ext (col U (i 0) (i 2)) ((i 1).val + 17) := by
  have i1 : (i 1).val < 8192 := (i 1).isLt
  pointwise [val_main_v7, val_main_v6, val_main_v3, val_main_cst]
  by_cases h : (i 1).val < 8191
  · rw [dif_pos h, Halo.ext_in _ _ ⟨1 + (i 1).val, by omega⟩ (by dsimp only; omega)]
    exact col_ref U _
  · rw [dif_neg h, Halo.ext_out _ _ (by omega)]

/-- The three taps spread over the positions. -/
theorem taps_ref (i : S2x8192x6144.Idx) : val_main_v11 (F := Ideal) W i = W (ix2 0 (i 2))
    ∧ val_main_v16 (F := Ideal) W i = W (ix2 1 (i 2)) ∧ val_main_v22 (F := Ideal) W i = W (ix2 2 (i 2)) := by
  refine ⟨?_, ?_, ?_⟩
  · pointwise [val_main_v11, val_main_v10, val_main_v9, val_main_v8]
  · pointwise [val_main_v16, val_main_v15, val_main_v14, val_main_v13]
  · pointwise [val_main_v22, val_main_v21, val_main_v20, val_main_v19]

/-- The reference's convolution of all columns. -/
theorem conv_ref (i : S2x8192x6144.Idx) : val_main_v24 (F := Ideal) U W i
    = Halo.conv3 (fun q => W (ix2 q (i 2))) (col U (i 0) (i 2)) (i 1).val := by
  obtain ⟨t0, t1, t2⟩ := taps_ref W i
  have i1 : (i 1).val < 8192 := (i 1).isLt
  rw [val_main_v24_apply, val_main_v18_apply, val_main_v12_apply, val_main_v17_apply, val_main_v23_apply, t0, t1, t2,
    before_ref, after_ref, col_ref]
  unfold Halo.conv3
  rw [Halo.ext_in _ _ (i 1) rfl]
  rfl

/-- A third of the convolved columns, read at its offset. -/
theorem third_ref (o : Nat) (ho : o ≤ 4096) (i : S2x8192x2048.Idx) (h : o + (i 2).val < 6144) :
    val_main_v24 (F := Ideal) U W (ix3 (i 0) (i 1) ⟨o + (i 2).val, h⟩) = conv U W o ho i :=
  conv_ref U W _

/-- The first third: the value. -/
theorem ref4 : val_main_v25 (F := Ideal) U W = conv U W 0 (by decide) := by
  funext i
  have h : (i 2).val < 2048 := (i 2).isLt
  refine Eq.trans ?_ (third_ref U W 0 (by decide) i (by omega))
  pointwise [val_main_v25]

/-- The second third: the first gate. -/
theorem ref5 : val_main_v26 (F := Ideal) U W = conv U W 2048 (by decide) := by
  funext i
  have h : (i 2).val < 2048 := (i 2).isLt
  refine Eq.trans ?_ (third_ref U W 2048 (by decide) i (by omega))
  pointwise [val_main_v26]

/-- The last third: the second gate. -/
theorem ref6 : val_main_v27 (F := Ideal) U W = conv U W 4096 (by decide) := by
  funext i
  have h : (i 2).val < 2048 := (i 2).isLt
  refine Eq.trans ?_ (third_ref U W 4096 (by decide) i (by omega))
  pointwise [val_main_v27]

end Cert.HyenaShort

end
-- ==== Proof.HshortEq.lean ====
module

public import proofs.«01_k».proof.Proof.HshortRef
public import proofs.«01_k».proof.Proof.Gen.Reference9Ideal.Run
public import Idealize.ShloMosaic.Adequacy
public import Idealize.ShloMosaic.Init
public import Idealize.ShloMosaic.Lib.Quiescent

/-! Hyena's short convolution: the kernel's run and the reference's leave the same three arrays. -/

@[expose] public section

noncomputable section

namespace Cert.HyenaShort

open Idealize.ShloMosaic Idealize.ShloMosaic.TcCoe Idealize.SL.Sem

/-- The reference runs to its end and keeps its arguments. -/
theorem reference_runs : quiescent_Reference9Ideal := fun m ρ _ =>
  (θ_run Reference9Ideal.defs _ _).mono (fun r h => ⟨fun c => (h c).2.2.2, sem_eq_zero_of_no_sems (by decide) r.2⟩)
    (Reference9Ideal.Value.run (F := Ideal) m ρ)

/-- The kernel and the reference leave the same arrays. -/
theorem equal : algebraic_Kernel9Ideal_Reference9Ideal := by
  intro m ρ m' ρ' _ hagree
  refine ⟨fun c => conv (m ((c.tc : Thread Kernel9Ideal.nD Kernel9Ideal.τ).loc Kernel9Ideal.main_arg0))
      (m ((c.tc : Thread Kernel9Ideal.nD Kernel9Ideal.τ).loc Kernel9Ideal.main_arg1)) 0 (by decide),
    fun c => conv (m ((c.tc : Thread Kernel9Ideal.nD Kernel9Ideal.τ).loc Kernel9Ideal.main_arg0))
      (m ((c.tc : Thread Kernel9Ideal.nD Kernel9Ideal.τ).loc Kernel9Ideal.main_arg1)) 2048 (by decide),
    fun c => conv (m ((c.tc : Thread Kernel9Ideal.nD Kernel9Ideal.τ).loc Kernel9Ideal.main_arg0))
      (m ((c.tc : Thread Kernel9Ideal.nD Kernel9Ideal.τ).loc Kernel9Ideal.main_arg1)) 4096 (by decide),
    (θ_run Kernel9Ideal.defs _ _).mono (fun r h c => ⟨(h c).1.trans (final4 m c), (h c).2.1.trans (final5 m c), (h c).2.2.1.trans (final6 m c), (h c).2.2.2⟩) (Kernel9Ideal.Value.run_blocks (F := Ideal) m ρ), ?_⟩
  refine (θ_run Reference9Ideal.defs _ _).mono (fun r h c => ⟨(h c).1.trans ?_, (h c).2.1.trans ?_, (h c).2.2.1.trans ?_, (h c).2.2.2⟩) (Reference9Ideal.Value.run (F := Ideal) m' ρ')
  · rw [Reference9Ideal.Read.val_main_v25_eq, ref4]
    obtain ⟨h0, h1⟩ := hagree c
    rw [h0, h1]
  · rw [Reference9Ideal.Read.val_main_v26_eq, ref5]
    obtain ⟨h0, h1⟩ := hagree c
    rw [h0, h1]
  · rw [Reference9Ideal.Read.val_main_v27_eq, ref6]
    obtain ⟨h0, h1⟩ := hagree c
    rw [h0, h1]

end Cert.HyenaShort

end
-- ==== Proof.TapsHost.lean ====
module
public import proofs.«01_k».proof.Defs
public import proofs.«01_k».proof.Proof.Gen.Kernel13Ideal.Value
public import Idealize.ShloMosaic.Lib.Pointwise
public import Idealize.ShloMosaic.Lib.KernelVsHost
public import Idealize.ShloMosaic.Lib.StableHlo.RunRead
public import Idealize.ShloMosaic.Lib.Pipeline.ValueKit

/-!
The filter taps: the operands that the host code before the call makes (the features padded to 40 columns and
extended by their mirror image, the last weights by direction, the absolute decays), entry by entry.
-/

@[expose] public section

noncomputable section

namespace Cert.Taps

open Idealize.ShloMosaic Idealize.ShloMosaic.TcCoe Idealize.SL.Sem
open Cert.Kernel13Ideal Cert.Kernel13Ideal.Gen Cert.Kernel13Ideal.Value

/-- The position that a row of taps is made from: its own going up, mirrored after the gap. -/
def pos (r : Nat) (h : r < 16384) : Fin 8192 :=
  if h1 : r < 8192 then ⟨r, h1⟩ else if h2 : r = 8192 then 0 else ⟨16384 - r, by omega⟩

/-- Which of the two output halves a column of a tap belongs to. -/
def half (k : Fin 4096) : Fin 2 := ⟨k.val / 2048, by omega⟩
/-- The column within its half. -/
def within (k : Fin 4096) : Fin 2048 := ⟨k.val % 2048, by omega⟩
/-- The column of the last weights that a direction's column comes from. -/
def col (d : Fin 2) (k : Fin 4096) : Fin 8192 := ⟨k.val / 2048 * 4096 + d.val * 2048 + k.val % 2048, by omega⟩

/-- The choice on the row number of the array: the comparison of 32-bit words is the comparison of numbers. -/
theorem at_row (q n : Nat) (hq : q < 32) (hn : n < 512) (x y : EReal) :
    Scalar.select (IntOp.cmpi CmpIPredicate.eq (IntOp.addi (Scalar.muli (BitVec.ofNat 32 q) 512#32) (BitVec.ofNat 32 n))
      8192#32) x y = if q * 512 + n = 8192 then x else y := by
  have e : (BitVec.ofNat 32 q * 512#32 + BitVec.ofNat 32 n == 8192#32) = decide (q * 512 + n = 8192) := by
    rw [Bool.eq_iff_iff]
    simp [← BitVec.toNat_inj, BitVec.toNat_add, BitVec.toNat_mul]
    omega
  show Scalar.select (BitVec.ofBool (BitVec.ofNat 32 q * 512#32 + BitVec.ofNat 32 n == 8192#32)) x y = _
  rw [e]
  by_cases h : q * 512 + n = 8192
  · rw [if_pos h, decide_eq_true h]; rfl
  · rw [if_neg h, decide_eq_false h]; rfl

/-- A sum of products padded with zeros is the sum of the products. -/
theorem sum_padded (f g : Fin 33 → EReal) : ∑ k : Fin 40, (if h : k.val < 33 then f ⟨k.val, h⟩ else 0)
    * (if h : k.val < 33 then g ⟨k.val, h⟩ else 0) = ∑ k : Fin 33, f k * g k := by
  rw [show (40 : Nat) = 33 + 7 from rfl, Fin.sum_univ_add]
  refine (congrArg₂ (fun a b : EReal => a + b) (Finset.sum_congr rfl fun k _ => ?_) (Finset.sum_eq_zero fun k _ => ?_)).trans
    (add_zero _)
  · rw [dif_pos (by show k.val < 33; exact k.isLt), dif_pos (by show k.val < 33; exact k.isLt)]; rfl
  · rw [dif_neg (by show ¬ 33 + k.val < 33; omega), zero_mul]

variable (m : (ℓ : Loc nD τ sig) → Buf (Elt Ideal) ℓ)

/-- An array, its first row and its other rows in reverse, joined: row `r` is the row at `pos r`. -/
theorem mirrored {n : Nat} (x : (⟨2, ![8192, n]⟩ : Shape).Idx → EReal) (h1 h2 h)
    (i : (⟨2, ![16384, n]⟩ : Shape).Idx) :
    concatenate ⟨2, ![16384, n]⟩ 0 [⟨⟨2, ![8192, n]⟩, x⟩, ⟨⟨2, ![1, n]⟩, extractStridedSlice ⟨2, ![1, n]⟩ ![0, 0] x h1⟩,
      ⟨⟨2, ![8191, n]⟩, Host.reverse [0] (extractStridedSlice ⟨2, ![8191, n]⟩ ![1, 0] x h2)⟩] h i
      = x (ix2 (pos (i 0).val (i 0).isLt) (i 1)) := by
  have hi : (i 0).val < 16384 := (i 0).isLt
  by_cases c1 : (i 0).val < 8192
  · refine (concatenate_apply_piece 0 _ h i 0 (by simp) ⟨2, ![8192, n]⟩ x rfl rfl 0 rfl (ix2 ⟨(i 0).val, c1⟩ (i 1)) ?_ ?_).trans ?_
    · exact fun b => match b with
        | 0 => fun hb => absurd rfl hb
        | 1 => fun _ => rfl
    · exact Nat.zero_add _
    · unfold pos; rw [dif_pos c1]
  by_cases c2 : (i 0).val = 8192
  · refine (concatenate_apply_piece 0 _ h i 1 (by simp) ⟨2, ![1, n]⟩ _ rfl rfl 8192 rfl (ix2 0 (i 1)) ?_ ?_).trans ?_
    · exact fun b => match b with
        | 0 => fun hb => absurd rfl hb
        | 1 => fun _ => rfl
    · exact c2.symm
    · unfold pos; rw [dif_neg c1, dif_pos c2]
      show x _ = x _
      refine congrArg x (funext fun a => Fin.ext ?_)
      match a with
      | 0 => rfl
      | 1 => exact Nat.zero_add _
  · refine (concatenate_apply_piece 0 _ h i 2 (by simp) ⟨2, ![8191, n]⟩ _ rfl rfl 8193 rfl
      (ix2 ⟨(i 0).val - 8193, by omega⟩ (i 1)) ?_ ?_).trans ?_
    · exact fun b => match b with
        | 0 => fun hb => absurd rfl hb
        | 1 => fun _ => rfl
    · show 8193 + ((i 0).val - 8193) = _; omega
    · unfold pos; rw [dif_neg c1, dif_neg c2]
      show x _ = x _
      refine congrArg x (funext fun a => Fin.ext ?_)
      match a with
      | 0 =>
        show 1 + (8191 - ((i 0).val - 8193 + 1)) = 16384 - (i 0).val
        omega
      | 1 => exact Nat.zero_add _

/-- Seven zero columns at the end. -/
theorem padded_cols (x : S8192x33.Idx → EReal) (v : S_.Idx → EReal) (hv : ∀ u, v u = 0) (i : S8192x40.Idx) :
    pad S8192x40 ![0, 0] ![0, 7] ![0, 0] x v pads_S8192x33_S8192x40_000_070 h_S_ i
      = if h : (i 1).val < 33 then x (ix2 (i 0) ⟨(i 1).val, h⟩) else (0 : EReal) := by
  by_cases h : (i 1).val < 33
  · rw [dif_pos h]
    refine pad_apply_of_inside _ _ _ x v _ _ i (ix2 (i 0) ⟨(i 1).val, h⟩) ?_
    intro a; fin_cases a <;> simp <;> rfl
  · rw [dif_neg h]
    refine (pad_apply_of_not_inside _ _ _ x v _ _ i 1 ?_).trans (hv _)
    rintro ⟨-, -, h3⟩
    exact h (by simpa using h3)

/-- Seven zero rows at the end. -/
theorem padded_rows (x : S33x64.Idx → EReal) (v : S_.Idx → EReal) (hv : ∀ u, v u = 0) (i : S40x64.Idx) :
    pad S40x64 ![0, 0] ![7, 0] ![0, 0] x v pads_S33x64_S40x64_070_000 h_S_ i
      = if h : (i 0).val < 33 then x (ix2 ⟨(i 0).val, h⟩ (i 1)) else (0 : EReal) := by
  by_cases h : (i 0).val < 33
  · rw [dif_pos h]
    refine pad_apply_of_inside _ _ _ x v _ _ i (ix2 ⟨(i 0).val, h⟩ (i 1)) ?_
    intro a; fin_cases a <;> simp <;> rfl
  · rw [dif_neg h]
    refine (pad_apply_of_not_inside _ _ _ x v _ _ i 0 ?_).trans (hv _)
    rintro ⟨-, -, h3⟩
    exact h (by simpa using h3)

/-- The integer zero that the padding value is converted from. -/
theorem zero_f32 (u : S_.Idx) : (sitofp (F := Ideal) FTy.f32 (constantI S_ 32 0#32) : S_.Idx → EReal) u = 0 := by
  show ((((0#32 : BitVec 32).toInt : ℝ) : EReal)) = 0
  simp

/-- The first weights, with zero rows. -/
theorem v9 (c : Dev nD) (i : S40x64.Idx) : (V m c main_v9 : S40x64.Idx → EReal) i =
    if h : (i 0).val < 33 then (m ((c : Thread nD τ).loc main_arg2) : S33x64.Idx → EReal) (ix2 ⟨(i 0).val, h⟩ (i 1)) else (0 : EReal) := by
  show StableHlo.after (List.flatten [hostOps0, hostOps0_1, hostOps0_2, hostOps0_3, hostOps0_4]) (fun b => m (c, b)) (Proc.devRef .tc main_v9) i = _
  simp only [hostOps0, hostOps0_1, hostOps0_2, hostOps0_3, hostOps0_4, List.flatten_cons, List.flatten_nil, List.append_nil, List.cons_append, List.nil_append]
  entry_read
  exact padded_rows _ _ zero_f32 i

/-- The last weights by direction. -/
theorem v12 (c : Dev nD) (i : S2x64x4096.Idx) : (V m c main_v12 : S2x64x4096.Idx → EReal) i
    = (m ((c : Thread nD τ).loc main_arg6) : S64x8192.Idx → EReal) (ix2 (i 1) (col (i 0) (i 2))) := by
  show StableHlo.after (List.flatten [hostOps0, hostOps0_1, hostOps0_2, hostOps0_3, hostOps0_4]) (fun b => m (c, b)) (Proc.devRef .tc main_v12) i = _
  simp only [hostOps0, hostOps0_1, hostOps0_2, hostOps0_3, hostOps0_4, List.flatten_cons, List.flatten_nil, List.append_nil, List.cons_append, List.nil_append]
  entry_read
  pointwise
  rfl

/-- The absolute decays by direction. -/
theorem v15 (c : Dev nD) (i : S2x1x4096.Idx) : (V m c main_v15 : S2x1x4096.Idx → EReal) i
    = FloatOps.absf (F := Ideal) (φ := .f32) ((m ((c : Thread nD τ).loc main_arg8) : S2x2x2048.Idx → EReal) (ix3 (half (i 2)) (i 0) (within (i 2)))) := by
  show StableHlo.after (List.flatten [hostOps0, hostOps0_1, hostOps0_2, hostOps0_3, hostOps0_4]) (fun b => m (c, b)) (Proc.devRef .tc main_v15) i = _
  simp only [hostOps0, hostOps0_1, hostOps0_2, hostOps0_3, hostOps0_4, List.flatten_cons, List.flatten_nil, List.append_nil, List.cons_append, List.nil_append]
  entry_read
  pointwise
  rfl

/-- The first shift as a row. -/
theorem v16 (c : Dev nD) (i : S1x64.Idx) : (V m c main_v16 : S1x64.Idx → EReal) i
    = (m ((c : Thread nD τ).loc main_arg3) : S64.Idx → EReal) (ix1 (i 1)) := by
  show StableHlo.after (List.flatten [hostOps0, hostOps0_1, hostOps0_2, hostOps0_3, hostOps0_4]) (fun b => m (c, b)) (Proc.devRef .tc main_v16) i = _
  simp only [hostOps0, hostOps0_1, hostOps0_2, hostOps0_3, hostOps0_4, List.flatten_cons, List.flatten_nil, List.append_nil, List.cons_append, List.nil_append]
  entry_read
  pointwise
/-- The second shift as a row. -/
theorem v17 (c : Dev nD) (i : S1x64.Idx) : (V m c main_v17 : S1x64.Idx → EReal) i
    = (m ((c : Thread nD τ).loc main_arg5) : S64.Idx → EReal) (ix1 (i 1)) := by
  show StableHlo.after (List.flatten [hostOps0, hostOps0_1, hostOps0_2, hostOps0_3, hostOps0_4]) (fun b => m (c, b)) (Proc.devRef .tc main_v17) i = _
  simp only [hostOps0, hostOps0_1, hostOps0_2, hostOps0_3, hostOps0_4, List.flatten_cons, List.flatten_nil, List.append_nil, List.cons_append, List.nil_append]
  entry_read
  pointwise

/-- The frequencies as a row. -/
theorem v18 (c : Dev nD) (i : S1x64.Idx) : (V m c main_v18 : S1x64.Idx → EReal) i
    = (m ((c : Thread nD τ).loc main_arg7) : S64.Idx → EReal) (ix1 (i 1)) := by
  show StableHlo.after (List.flatten [hostOps0, hostOps0_1, hostOps0_2, hostOps0_3, hostOps0_4]) (fun b => m (c, b)) (Proc.devRef .tc main_v18) i = _
  simp only [hostOps0, hostOps0_1, hostOps0_2, hostOps0_3, hostOps0_4, List.flatten_cons, List.flatten_nil, List.append_nil, List.cons_append, List.nil_append]
  entry_read
  pointwise

/-- `mirrored` for pieces given by their contents. -/
theorem mirrored_of {n : Nat} (x y0 : (⟨2, ![8192, n]⟩ : Shape).Idx → EReal) (y1 : (⟨2, ![1, n]⟩ : Shape).Idx → EReal)
    (y2 : (⟨2, ![8191, n]⟩ : Shape).Idx → EReal) (h1 h2 h) (e0 : y0 = x)
    (e1 : y1 = extractStridedSlice ⟨2, ![1, n]⟩ ![0, 0] x h1)
    (e2 : y2 = Host.reverse [0] (extractStridedSlice ⟨2, ![8191, n]⟩ ![1, 0] x h2))
    (i : (⟨2, ![16384, n]⟩ : Shape).Idx) :
    concatenate ⟨2, ![16384, n]⟩ 0 [⟨⟨2, ![8192, n]⟩, y0⟩, ⟨⟨2, ![1, n]⟩, y1⟩, ⟨⟨2, ![8191, n]⟩, y2⟩] h i
      = x (ix2 (pos (i 0).val (i 0).isLt) (i 1)) := by
  subst e0 e1 e2
  exact mirrored _ h1 h2 h i

/-- The times, extended by their mirror image. -/
theorem v8 (c : Dev nD) (i : S16384x1.Idx) : (V m c main_v8 : S16384x1.Idx → EReal) i
    = (m ((c : Thread nD τ).loc main_arg1) : S8192x1.Idx → EReal) (ix2 (pos (i 0).val (i 0).isLt) (i 1)) := by
  have e := StableHlo.after_last_write (ops := (List.flatten [hostOps0, hostOps0_1, hostOps0_2, hostOps0_3, hostOps0_4] : List (HloOp τ sig (Elt Ideal))))
    (i := 10) (r := main_v8) [main_c_0, main_call1_v0, main_v9, main_v10, main_v11, main_v12,
    main_v13, main_v14, main_v15, main_v16, main_v17, main_v18] (rest := List.drop 11 (List.flatten [hostOps0, hostOps0_1, hostOps0_2, hostOps0_3, hostOps0_4] : List (HloOp τ sig (Elt Ideal))))
    rfl rfl (by decide) (fun b => m (c, b))
  rw [StableHlo.nary_result] at e
  refine (congrFun e i).trans ?_
  refine mirrored_of (m ((c : Thread nD τ).loc main_arg1)) _ _ _ slices_S8192x1_S1x1_0_0 slices_S8192x1_S8191x1_1_0 _ ?_ ?_ ?_ i
  · show StableHlo.after (List.take 10 (List.flatten [hostOps0, hostOps0_1, hostOps0_2, hostOps0_3, hostOps0_4])) (fun b => m (c, b)) (Proc.devRef .tc main_arg1) = _
    simp only [hostOps0, hostOps0_1, hostOps0_2, hostOps0_3, hostOps0_4, List.flatten_cons, List.flatten_nil, List.append_nil, List.cons_append, List.nil_append, List.take_succ_cons, List.take_zero]
    entry_read
    rfl
  · show StableHlo.after (List.take 10 (List.flatten [hostOps0, hostOps0_1, hostOps0_2, hostOps0_3, hostOps0_4])) (fun b => m (c, b)) (Proc.devRef .tc main_v5) = _
    simp only [hostOps0, hostOps0_1, hostOps0_2, hostOps0_3, hostOps0_4, List.flatten_cons, List.flatten_nil, List.append_nil, List.cons_append, List.nil_append, List.take_succ_cons, List.take_zero]
    entry_read
    rfl
  · show StableHlo.after (List.take 10 (List.flatten [hostOps0, hostOps0_1, hostOps0_2, hostOps0_3, hostOps0_4])) (fun b => m (c, b)) (Proc.devRef .tc main_v7) = _
    simp only [hostOps0, hostOps0_1, hostOps0_2, hostOps0_3, hostOps0_4, List.flatten_cons, List.flatten_nil, List.append_nil, List.cons_append, List.nil_append, List.take_succ_cons, List.take_zero]
    entry_read
    rfl

/-- The padded features, as the operands before the call hold them. -/
abbrev zpad (c : Dev nD) : S8192x40.Idx → EReal :=
  pad S8192x40 ![0, 0] ![0, 7] ![0, 0] (m ((c : Thread nD τ).loc main_arg0) : S8192x33.Idx → EReal)
    (sitofp (F := Ideal) FTy.f32 (constantI S_ 32 0#32) : S_.Idx → EReal) pads_S8192x33_S8192x40_000_070 h_S_

/-- The features, padded and extended by their mirror image. -/
theorem v4 (c : Dev nD) (i : S16384x40.Idx) : (V m c main_v4 : S16384x40.Idx → EReal) i
    = if h : (i 1).val < 33 then (m ((c : Thread nD τ).loc main_arg0) : S8192x33.Idx → EReal)
        (ix2 (pos (i 0).val (i 0).isLt) ⟨(i 1).val, h⟩) else (0 : EReal) := by
  have e := StableHlo.after_last_write (ops := (List.flatten [hostOps0, hostOps0_1, hostOps0_2, hostOps0_3, hostOps0_4] : List (HloOp τ sig (Elt Ideal))))
    (i := 6) (r := main_v4) [main_v5, main_v6, main_v7, main_v8, main_c_0, main_call1_v0, main_v9, main_v10, main_v11, main_v12,
    main_v13, main_v14, main_v15, main_v16, main_v17, main_v18] (rest := List.drop 7 (List.flatten [hostOps0, hostOps0_1, hostOps0_2, hostOps0_3, hostOps0_4] : List (HloOp τ sig (Elt Ideal))))
    rfl rfl (by decide) (fun b => m (c, b))
  rw [StableHlo.nary_result] at e
  refine (congrFun e i).trans ?_
  refine (mirrored_of (zpad m c) _ _ _ slices_S8192x40_S1x40_0_0 slices_S8192x40_S8191x40_1_0 _ ?_ ?_ ?_ i).trans
    (padded_cols _ _ zero_f32 _)
  · show StableHlo.after (List.take 6 (List.flatten [hostOps0, hostOps0_1, hostOps0_2, hostOps0_3, hostOps0_4])) (fun b => m (c, b)) (Proc.devRef .tc main_v0) = _
    simp only [hostOps0, hostOps0_1, hostOps0_2, hostOps0_3, hostOps0_4, List.flatten_cons, List.flatten_nil, List.append_nil, List.cons_append, List.nil_append, List.take_succ_cons, List.take_zero]
    entry_read
    rfl
  · show StableHlo.after (List.take 6 (List.flatten [hostOps0, hostOps0_1, hostOps0_2, hostOps0_3, hostOps0_4])) (fun b => m (c, b)) (Proc.devRef .tc main_v1) = _
    simp only [hostOps0, hostOps0_1, hostOps0_2, hostOps0_3, hostOps0_4, List.flatten_cons, List.flatten_nil, List.append_nil, List.cons_append, List.nil_append, List.take_succ_cons, List.take_zero]
    entry_read
    rfl
  · show StableHlo.after (List.take 6 (List.flatten [hostOps0, hostOps0_1, hostOps0_2, hostOps0_3, hostOps0_4])) (fun b => m (c, b)) (Proc.devRef .tc main_v3) = _
    simp only [hostOps0, hostOps0_1, hostOps0_2, hostOps0_3, hostOps0_4, List.flatten_cons, List.flatten_nil, List.append_nil, List.cons_append, List.nil_append, List.take_succ_cons, List.take_zero]
    entry_read
    rfl

end Cert.Taps

end
-- ==== Proof.TapsValue.lean ====
module

public import proofs.«01_k».proof.Proof.TapsHost

/-!
The filter taps: what the kernel leaves in its result array.
-/

@[expose] public section

noncomputable section

namespace Cert.Taps

open Idealize.ShloMosaic Idealize.ShloMosaic.TcCoe Idealize.SL.Sem
open Cert.Kernel13Ideal Cert.Kernel13Ideal.Gen Cert.Kernel13Ideal.Value

/-- One layer of the filter network: a product with the weights, the shift, the frequency and the sine. -/
def layer {n : Nat} (z : Fin n → EReal) (w : Fin n → Fin 64 → EReal) (b f : Fin 64 → EReal) (h : Fin 64) : EReal :=
  Ideal.sin (f h * ((∑ k, z k * w k h) + b h))

/-- One tap before the gap: the two layers, the last product and the decay. -/
def tap {n : Nat} (z : Fin n → EReal) (t : EReal) (w1 : Fin n → Fin 64 → EReal) (b1 : Fin 64 → EReal)
    (w2 : Fin 64 → Fin 64 → EReal) (b2 f : Fin 64 → EReal) (w3 : Fin 64 → EReal) (a : EReal) : EReal :=
  (∑ h, layer (layer z w1 b1 f) w2 b2 f h * w3 h) * Ideal.exp ((0 - t) * a)

/-- The zero columns of the features and the zero rows of the weights add nothing. -/
theorem layer_padded (z : Fin 33 → EReal) (w : Fin 33 → Fin 64 → EReal) (b f : Fin 64 → EReal) :
    layer (n := 40) (fun k => if h : k.val < 33 then z ⟨k.val, h⟩ else 0)
      (fun k c => if h : k.val < 33 then w ⟨k.val, h⟩ c else 0) b f = layer z w b f := by
  funext h
  unfold layer
  rw [sum_padded z fun k => w k h]

/-- One block of the result. -/
theorem block_apply (q : Nat) (hq : q < 32) (f : Vec Ideal S1x64 .f32) (z : Vec Ideal S512x40 .f32) (w1 : Vec Ideal S40x64 .f32)
    (b1 : Vec Ideal S1x64 .f32) (w2 : Vec Ideal S64x64 .f32) (b2 : Vec Ideal S1x64 .f32) (w3 : Vec Ideal S1x64x4096 .f32)
    (a : Vec Ideal S1x1x4096 .f32) (t : Vec Ideal S512x1 .f32) (j : S512x4096.Idx) :
    k0_pay1 (F := Ideal) (BitVec.ofNat 32 q) (k0_pay2 f z w1 b1 w2 b2 w3) (k0_pay3 a) (k0_pay4 t) j
      = if q * 512 + (j 0).val = 8192 then (0 : EReal) else
        tap (fun k => z (ix2 (j 0) k)) (t (ix2 (j 0) 0)) (fun k c => w1 (ix2 k c)) (fun h => b1 (ix2 0 h))
          (fun k c => w2 (ix2 k c)) (fun h => b2 (ix2 0 h)) (fun h => f (ix2 0 h)) (fun h => w3 (ix3 0 h (j 1)))
          (a (ix3 0 0 (j 1))) := by
  obtain ⟨r, k, rfl⟩ : ∃ (r : Fin 512) (k : Fin 4096), j = ix2 r k := ⟨j 0, j 1, eq_ix2 j⟩
  pointwise [k0_pay1, k0_pay2, k0_pay3, k0_pay4]
  exact at_row q r.val hq r.isLt _ _

variable (m : (ℓ : Loc nD τ sig) → Buf (Elt Ideal) ℓ)

/-- The window indices over the grid. -/
theorem idx : ∀ t : Fin cfg0.N, (win0_0.index t 0 = t.val ∧ win0_0.index t 1 = 0
    ∧ win0_1.index t 0 = t.val ∧ win0_1.index t 1 = 0)
    ∧ (win0_2.index t 0 = 0 ∧ win0_2.index t 1 = 0 ∧ win0_3.index t 0 = 0 ∧ win0_3.index t 1 = 0
    ∧ win0_4.index t 0 = 0 ∧ win0_4.index t 1 = 0 ∧ win0_5.index t 0 = 0 ∧ win0_5.index t 1 = 0
    ∧ win0_6.index t 0 = 0 ∧ win0_6.index t 1 = 0)
    ∧ (win0_7.index t 0 = t.val / 16 ∧ win0_7.index t 1 = 0 ∧ win0_7.index t 2 = 0
    ∧ win0_8.index t 0 = t.val / 16 ∧ win0_8.index t 1 = 0 ∧ win0_8.index t 2 = 0)
    ∧ win0_9.index t 0 = t.val ∧ win0_9.index t 1 = 0 ∧ t.val < 32 ∧ (grid0.coords t 0).val = t.val :=
  (by decide +kernel : ∀ t : Fin grid0.N, _)

/-- The direction a row of taps belongs to. -/
def dir (r : Nat) : Fin 2 := if r < 8192 then 0 else 1

/-- The taps from the arguments. -/
def taps (Z : S8192x33.Idx → EReal) (T : S8192x1.Idx → EReal) (W1 : S33x64.Idx → EReal) (b1 : S64.Idx → EReal)
    (W2 : S64x64.Idx → EReal) (b2 : S64.Idx → EReal) (W3 : S64x8192.Idx → EReal) (f : S64.Idx → EReal)
    (D : S2x2x2048.Idx → EReal) (r : Fin 16384) (k : Fin 4096) : EReal :=
  if r.val = 8192 then 0 else
    tap (fun x => Z (ix2 (pos r.val r.isLt) x)) (T (ix2 (pos r.val r.isLt) 0)) (fun x c => W1 (ix2 x c)) (fun h => b1 (ix1 h))
      (fun x c => W2 (ix2 x c)) (fun h => b2 (ix1 h)) (fun h => f (ix1 h)) (fun h => W3 (ix2 h (col (dir r.val) k)))
      (FloatOps.absf (F := Ideal) (φ := .f32) (D (ix3 (half k) (dir r.val) (within k))))

/-- What the result holds. -/
abbrev outs (c : Dev nD) : S16384x4096.Idx → EReal := fun i =>
  taps (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (i 0) (i 1)

/-- The features' block. -/
theorem z_iblk (c : Dev nD) (t : Fin cfg0.N) (r : Fin 512) (R : Fin 16384) (hR : R.val = t.val * 512 + r.val) (k : Fin 40) :
    (iblk m c 0 t : S512x40.Idx → EReal) (ix2 r k)
      = if h : k.val < 33 then (m ((c : Thread nD τ).loc main_arg0) : S8192x33.Idx → EReal) (ix2 (pos R.val R.isLt) ⟨k.val, h⟩)
        else (0 : EReal) := by
  obtain ⟨⟨e0, e1, -⟩, -⟩ := idx t
  refine Eq.trans ?_ (v4 m c (ix2 R k))
  blk_simp [iblk]
  refine congrArg (V m c main_v4) ?_
  blk_ext [e0, e1, hR]

/-- The times' block. -/
theorem t_iblk (c : Dev nD) (t : Fin cfg0.N) (r : Fin 512) (R : Fin 16384) (hR : R.val = t.val * 512 + r.val) :
    (iblk m c 1 t : S512x1.Idx → EReal) (ix2 r 0)
      = (m ((c : Thread nD τ).loc main_arg1) : S8192x1.Idx → EReal) (ix2 (pos R.val R.isLt) 0) := by
  obtain ⟨⟨-, -, e0, e1⟩, -⟩ := idx t
  refine Eq.trans ?_ (v8 m c (ix2 R 0))
  blk_simp [iblk]
  refine congrArg (V m c main_v8) ?_
  blk_ext [e0, e1, hR]

/-- The last weights' block. -/
theorem w3_iblk (c : Dev nD) (t : Fin cfg0.N) (r : Fin 512) (R : Fin 16384) (hR : R.val = t.val * 512 + r.val)
    (h : Fin 64) (k : Fin 4096) : (iblk m c 7 t : S1x64x4096.Idx → EReal) (ix3 0 h k)
      = (m ((c : Thread nD τ).loc main_arg6) : S64x8192.Idx → EReal) (ix2 h (col (dir R.val) k)) := by
  obtain ⟨-, -, ⟨e0, e1, e2, -⟩, -, -, ht, -⟩ := idx t
  refine Eq.trans ?_ (v12 m c (ix3 (dir R.val) h k))
  have hd : (dir R.val).val = t.val / 16 := by
    unfold dir; split <;> [show 0 = _; show 1 = _] <;> omega
  blk_simp [iblk]
  refine congrArg (V m c main_v12) ?_
  blk_ext [e0, e1, e2, hd]

/-- The decays' block. -/
theorem d_iblk (c : Dev nD) (t : Fin cfg0.N) (r : Fin 512) (R : Fin 16384) (hR : R.val = t.val * 512 + r.val)
    (k : Fin 4096) : (iblk m c 8 t : S1x1x4096.Idx → EReal) (ix3 0 0 k)
      = FloatOps.absf (F := Ideal) (φ := .f32)
          ((m ((c : Thread nD τ).loc main_arg8) : S2x2x2048.Idx → EReal) (ix3 (half k) (dir R.val) (within k))) := by
  obtain ⟨-, -, ⟨-, -, -, e0, e1, e2⟩, -, -, ht, -⟩ := idx t
  refine Eq.trans ?_ (v15 m c (ix3 (dir R.val) 0 k))
  have hd : (dir R.val).val = t.val / 16 := by
    unfold dir; split <;> [show 0 = _; show 1 = _] <;> omega
  blk_simp [iblk]
  refine congrArg (V m c main_v15) ?_
  blk_ext [e0, e1, e2, hd]

/-- The blocks of the arguments that stay: the first weights. -/
theorem w1_iblk (c : Dev nD) (t : Fin cfg0.N) (k : Fin 40) (h : Fin 64) : (iblk m c 2 t : S40x64.Idx → EReal) (ix2 k h)
      = if h' : k.val < 33 then (m ((c : Thread nD τ).loc main_arg2) : S33x64.Idx → EReal) (ix2 ⟨k.val, h'⟩ h)
        else (0 : EReal) := by
  obtain ⟨-, ⟨e0, e1, -⟩, -⟩ := idx t
  refine Eq.trans ?_ (v9 m c (ix2 k h))
  blk_simp [iblk]
  refine congrArg (V m c main_v9) ?_
  blk_ext [e0, e1]

/-- The first shift. -/
theorem b1_iblk (c : Dev nD) (t : Fin cfg0.N) (h : Fin 64) : (iblk m c 3 t : S1x64.Idx → EReal) (ix2 0 h)
      = (m ((c : Thread nD τ).loc main_arg3) : S64.Idx → EReal) (ix1 h) := by
  obtain ⟨-, ⟨-, -, e0, e1, -⟩, -⟩ := idx t
  refine Eq.trans ?_ (v16 m c (ix2 0 h))
  blk_simp [iblk]
  refine congrArg (V m c main_v16) ?_
  blk_ext [e0, e1]

/-- The second weights. -/
theorem w2_iblk (c : Dev nD) (t : Fin cfg0.N) (k h : Fin 64) : (iblk m c 4 t : S64x64.Idx → EReal) (ix2 k h)
      = (m ((c : Thread nD τ).loc main_arg4) : S64x64.Idx → EReal) (ix2 k h) := by
  obtain ⟨-, ⟨-, -, -, -, e0, e1, -⟩, -⟩ := idx t
  blk_simp [iblk]
  rw [V_main_arg4]
  refine congrArg (m ((c : Thread nD τ).loc main_arg4)) ?_
  blk_ext [e0, e1]

/-- The second shift. -/
theorem b2_iblk (c : Dev nD) (t : Fin cfg0.N) (h : Fin 64) : (iblk m c 5 t : S1x64.Idx → EReal) (ix2 0 h)
      = (m ((c : Thread nD τ).loc main_arg5) : S64.Idx → EReal) (ix1 h) := by
  obtain ⟨-, ⟨-, -, -, -, -, -, e0, e1, -⟩, -⟩ := idx t
  refine Eq.trans ?_ (v17 m c (ix2 0 h))
  blk_simp [iblk]
  refine congrArg (V m c main_v17) ?_
  blk_ext [e0, e1]

/-- The frequencies. -/
theorem f_iblk (c : Dev nD) (t : Fin cfg0.N) (h : Fin 64) : (iblk m c 6 t : S1x64.Idx → EReal) (ix2 0 h)
      = (m ((c : Thread nD τ).loc main_arg7) : S64.Idx → EReal) (ix1 h) := by
  obtain ⟨-, ⟨-, -, -, -, -, -, -, -, e0, e1⟩, -⟩ := idx t
  refine Eq.trans ?_ (v18 m c (ix2 0 h))
  blk_simp [iblk]
  refine congrArg (V m c main_v18) ?_
  blk_ext [e0, e1]

/-- A block's row of taps is the array's row of taps. -/
theorem out_iblk (c : Dev nD) (t : Fin cfg0.N) (r : Fin 512) (R : Fin 16384) (hR : R.val = t.val * 512 + r.val) (k : Fin 4096) :
    (if t.val * 512 + r.val = 8192 then (0 : EReal) else
      tap (fun k => (iblk m c 0 t : S512x40.Idx → EReal) (ix2 r k)) ((iblk m c 1 t : S512x1.Idx → EReal) (ix2 r 0))
        (fun k h => (iblk m c 2 t : S40x64.Idx → EReal) (ix2 k h)) (fun h => (iblk m c 3 t : S1x64.Idx → EReal) (ix2 0 h))
        (fun k h => (iblk m c 4 t : S64x64.Idx → EReal) (ix2 k h)) (fun h => (iblk m c 5 t : S1x64.Idx → EReal) (ix2 0 h))
        (fun h => (iblk m c 6 t : S1x64.Idx → EReal) (ix2 0 h)) (fun h => (iblk m c 7 t : S1x64x4096.Idx → EReal) (ix3 0 h k))
        ((iblk m c 8 t : S1x1x4096.Idx → EReal) (ix3 0 0 k)))
      = taps (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) R k := by
  rw [funext (z_iblk m c t r R hR), t_iblk m c t r R hR, funext fun k => funext (w1_iblk m c t k), funext (b1_iblk m c t),
    funext fun k => funext (w2_iblk m c t k), funext (b2_iblk m c t), funext (f_iblk m c t),
    funext fun h => w3_iblk m c t r R hR h k, d_iblk m c t r R hR k]
  unfold taps
  refine if_congr (by rw [hR]) rfl ?_
  unfold tap
  rw [layer_padded (fun x => (m ((c : Thread nD τ).loc main_arg0) : S8192x33.Idx → EReal) (ix2 (pos R.val R.isLt) x))
    fun x c' => (m ((c : Thread nD τ).loc main_arg2) : S33x64.Idx → EReal) (ix2 x c')]

/-- The result array after the run. -/
theorem final (c : Dev nD) : (dats m 0 c).arrAt 9 cfg0.N = outs m c := by
  refine (dats m 0 c).arrAt_eq_of_covers 9 _ (by decide +kernel) fun t hf y => ?_
  obtain ⟨-, -, -, e8, e9, ht, hc⟩ := idx t
  have r0 : ((win0_9.blk t).view.emb y 0).val = t.val * 512 + (y 0).val := by blk_simp; rw [e8]
  have r1 : ((win0_9.blk t).view.emb y 1) = y 1 := Fin.ext (by blk_simp; rw [e9]; omega)
  blk_simp
  rw [after0_9]
  frame_out
  rw [hc]
  exact (block_apply t.val ht _ _ _ _ _ _ _ _ _ y).trans ((out_iblk m c t _ _ r0 _).trans (congrArg _ r1.symm))

end Cert.Taps

end
-- ==== Proof.TapsRef.lean ====
module

public import proofs.«01_k».proof.Proof.TapsValue
public import proofs.«01_k».proof.Proof.Gen.Reference13Ideal.Read

/-! The reference of the filter taps, entry by entry. -/

@[expose] public section

noncomputable section

namespace Cert.Taps

open Idealize.ShloMosaic Idealize.ShloMosaic.TcCoe
open Cert.Reference13Ideal Cert.Reference13Ideal.Gen Cert.Reference13Ideal.Read

variable (Z : FVec Ideal S8192x33 .f32) (T : FVec Ideal S8192x1 .f32) (W1 : FVec Ideal S33x64 .f32) (b1 : FVec Ideal S64 .f32)
  (W2 : FVec Ideal S64x64 .f32) (b2 : FVec Ideal S64 .f32) (W3 : FVec Ideal S64x8192 .f32) (f : FVec Ideal S64 .f32)
  (D : FVec Ideal S2x2x2048 .f32)

/-- The first layer. -/
theorem first_ref (i : S8192x64.Idx) : val_main_v7 (F := Ideal) Z W1 b1 f i
    = layer (fun k => Z (ix2 (i 0) k)) (fun k c => W1 (ix2 k c)) (fun h => b1 (ix1 h)) (fun h => f (ix1 h)) (i 1) := by
  obtain ⟨r, k, rfl⟩ : ∃ (r : Fin 8192) (k : Fin 64), i = ix2 r k := ⟨i 0, i 1, eq_ix2 i⟩
  pointwise [val_main_v7, val_main_v6, val_main_v5, val_main_v4, val_main_v3, val_main_v2, val_main_v1, val_main_v0]
  rfl

/-- The second layer. -/
theorem second_ref (i : S8192x64.Idx) : val_main_v15 (F := Ideal) Z W1 b1 W2 b2 f i
    = layer (fun k => val_main_v7 (F := Ideal) Z W1 b1 f (ix2 (i 0) k)) (fun k c => W2 (ix2 k c)) (fun h => b2 (ix1 h))
        (fun h => f (ix1 h)) (i 1) := by
  obtain ⟨r, k, rfl⟩ : ∃ (r : Fin 8192) (k : Fin 64), i = ix2 r k := ⟨i 0, i 1, eq_ix2 i⟩
  pointwise [val_main_v15, val_main_v14, val_main_v13, val_main_v12, val_main_v11, val_main_v10, val_main_v9, val_main_v8]
  rfl

/-- The last product. -/
theorem third_ref (i : S8192x8192.Idx) : val_main_v16 (F := Ideal) Z W1 b1 W2 b2 W3 f i
    = ∑ h, val_main_v15 (F := Ideal) Z W1 b1 W2 b2 f (ix2 (i 0) h) * W3 (ix2 h (i 1)) := by
  pointwise [val_main_v16]

/-- The decay. -/
theorem decay_ref (i : S8192x2x2x2048.Idx) : val_main_v25 (F := Ideal) T D i
    = Ideal.exp ((0 - T (ix2 (i 0) 0)) * FloatOps.absf (F := Ideal) (φ := .f32) (D (ix3 (i 1) (i 2) (i 3)))) := by
  pointwise [val_main_v25, val_main_v24, val_main_v23, val_main_v22, val_main_v21, val_main_v20, val_main_v19, val_main_v18]
  rw [zero_sub]

/-- The decayed taps of both directions. -/
theorem decayed_ref (i : S8192x2x2x2048.Idx) : val_main_v26 (F := Ideal) Z T W1 b1 W2 b2 W3 f D i
    = val_main_v16 (F := Ideal) Z W1 b1 W2 b2 W3 f (ix2 (i 0) ⟨(i 1).val * 4096 + (i 2).val * 2048 + (i 3).val, by
        have h1 : (i 1).val < 2 := (i 1).isLt
        have h2 : (i 2).val < 2 := (i 2).isLt
        have h3 : (i 3).val < 2048 := (i 3).isLt
        omega⟩) * val_main_v25 (F := Ideal) T D i := by
  pointwise [val_main_v26, val_main_v17]

/-- One tap of one direction. -/
def tapAt (r : Fin 8192) (d : Fin 2) (k : Fin 4096) : EReal :=
  tap (fun x => Z (ix2 r x)) (T (ix2 r 0)) (fun x c => W1 (ix2 x c)) (fun h => b1 (ix1 h))
    (fun x c => W2 (ix2 x c)) (fun h => b2 (ix1 h)) (fun h => f (ix1 h)) (fun h => W3 (ix2 h (col d k)))
    (FloatOps.absf (F := Ideal) (φ := .f32) (D (ix3 (half k) d (within k))))

/-- The decayed taps at a column of a direction. -/
theorem tap_ref (r : Fin 8192) (d : Fin 2) (k : Fin 4096) :
    val_main_v26 (F := Ideal) Z T W1 b1 W2 b2 W3 f D (ix4 r (half k) d (within k)) = tapAt Z T W1 b1 W2 b2 W3 f D r d k := by
  refine (decayed_ref Z T W1 b1 W2 b2 W3 f D _).trans ?_
  unfold tapAt tap
  refine congrArg₂ (fun a b : EReal => a * b) ((third_ref Z W1 b1 W2 b2 W3 f _).trans (Finset.sum_congr rfl fun h _ => ?_))
    (decay_ref T D _)
  refine congrArg₂ (fun a b : EReal => a * b) ((second_ref Z W1 b1 W2 b2 f _).trans ?_) rfl
  exact congrArg (fun z : Fin 64 → EReal => layer z (fun x c => W2 (ix2 x c)) (fun h => b2 (ix1 h)) (fun h => f (ix1 h)) h)
    (funext fun x => first_ref Z W1 b1 f (ix2 r x))

/-- The taps of the forward direction. -/
theorem fwd_ref (i : S8192x2x2048.Idx) : val_main_v28 (F := Ideal) Z T W1 b1 W2 b2 W3 f D i
    = val_main_v26 (F := Ideal) Z T W1 b1 W2 b2 W3 f D (ix4 (i 0) (i 1) 0 (i 2)) := by
  obtain ⟨r, o, k, rfl⟩ : ∃ (r : Fin 8192) (o : Fin 2) (k : Fin 2048), i = ix3 r o k := ⟨i 0, i 1, i 2, eq_ix3 i⟩
  pointwise [val_main_v28, val_main_v27]

/-- The taps of the backward direction. -/
theorem bwd_ref (i : S8192x2x2048.Idx) : val_main_v30 (F := Ideal) Z T W1 b1 W2 b2 W3 f D i
    = val_main_v26 (F := Ideal) Z T W1 b1 W2 b2 W3 f D (ix4 (i 0) (i 1) 1 (i 2)) := by
  obtain ⟨r, o, k, rfl⟩ : ∃ (r : Fin 8192) (o : Fin 2) (k : Fin 2048), i = ix3 r o k := ⟨i 0, i 1, i 2, eq_ix3 i⟩
  pointwise [val_main_v30, val_main_v29]

/-- The forward taps, the gap and the backward taps in reverse. -/
theorem joined_ref (i : S16384x2x2048.Idx) : val_main_v35 (F := Ideal) Z T W1 b1 W2 b2 W3 f D i
    = if (i 0).val = 8192 then 0 else
      val_main_v26 (F := Ideal) Z T W1 b1 W2 b2 W3 f D (ix4 (pos (i 0).val (i 0).isLt) (i 1) (dir (i 0).val) (i 2)) := by
  have hi : (i 0).val < 16384 := (i 0).isLt
  unfold val_main_v35
  by_cases c1 : (i 0).val < 8192
  · rw [if_neg (by omega)]
    refine (concatenate_apply_piece 0 _ _ i 0 (by simp) S8192x2x2048 _ rfl rfl 0 rfl (ix3 ⟨(i 0).val, c1⟩ (i 1) (i 2)) ?_ ?_).trans ?_
    · exact fun b => match b with
        | 0 => fun hb => absurd rfl hb
        | 1 => fun _ => rfl
        | 2 => fun _ => rfl
    · exact Nat.zero_add _
    · unfold pos dir
      rw [dif_pos c1, if_pos c1]
      exact fwd_ref Z T W1 b1 W2 b2 W3 f D _
  by_cases c2 : (i 0).val = 8192
  · rw [if_pos c2]
    refine (concatenate_apply_piece 0 _ _ i 1 (by simp) S1x2x2048 _ rfl rfl 8192 rfl (ix3 0 (i 1) (i 2)) ?_ ?_).trans ?_
    · exact fun b => match b with
        | 0 => fun hb => absurd rfl hb
        | 1 => fun _ => rfl
        | 2 => fun _ => rfl
    · exact c2.symm
    · pointwise [val_main_v32, val_main_cst]
  · rw [if_neg c2]
    refine (concatenate_apply_piece 0 _ _ i 2 (by simp) S8191x2x2048 _ rfl rfl 8193 rfl
      (ix3 ⟨(i 0).val - 8193, by omega⟩ (i 1) (i 2)) ?_ ?_).trans ?_
    · exact fun b => match b with
        | 0 => fun hb => absurd rfl hb
        | 1 => fun _ => rfl
        | 2 => fun _ => rfl
    · show 8193 + ((i 0).val - 8193) = _; omega
    · unfold pos dir
      rw [dif_neg c1, dif_neg c2, if_neg c1]
      refine Eq.trans ?_ (bwd_ref Z T W1 b1 W2 b2 W3 f D (ix3 ⟨16384 - (i 0).val, by omega⟩ (i 1) (i 2)))
      show val_main_v30 (F := Ideal) Z T W1 b1 W2 b2 W3 f D _ = _
      refine congrArg (val_main_v30 (F := Ideal) Z T W1 b1 W2 b2 W3 f D) (funext fun a => Fin.ext ?_)
      match a with
      | 0 =>
        show 1 + (8191 - ((i 0).val - 8193 + 1)) = 16384 - (i 0).val
        omega
      | 1 => exact Nat.zero_add _
      | 2 => exact Nat.zero_add _

/-- The joined taps at a column. -/
theorem joined_at (r : Fin 16384) (k : Fin 4096) :
    val_main_v35 (F := Ideal) Z T W1 b1 W2 b2 W3 f D (ix3 r (half k) (within k)) = taps Z T W1 b1 W2 b2 W3 f D r k := by
  refine (joined_ref Z T W1 b1 W2 b2 W3 f D _).trans ?_
  unfold taps
  by_cases c : r.val = 8192
  · rw [if_pos c]
    exact if_pos c
  · rw [if_neg c]
    refine (if_neg c).trans ?_
    exact tap_ref Z T W1 b1 W2 b2 W3 f D (pos r.val r.isLt) (dir r.val) k

/-- The entry of the joined taps that an entry of the result reads. -/
theorem at_idx (r : Fin 16384) (k : Fin 4096) : idx_main_v36 (ix2 r k) = ix3 r (half k) (within k) := by
  funext a
  match a with
  | ⟨0, _⟩ => exact Fin.ext (by show (r.val * 4096 + k.val) / 4096 = r.val; omega)
  | ⟨1, _⟩ => exact Fin.ext (by show (r.val * 4096 + k.val) / 2048 % 2 = k.val / 2048; omega)
  | ⟨2, _⟩ => exact Fin.ext (by show (r.val * 4096 + k.val) % 2048 = k.val % 2048; omega)

/-- One entry of the reference's result. -/
theorem ref_apply (r : Fin 16384) (k : Fin 4096) : val_main_v36 (F := Ideal) Z T W1 b1 W2 b2 W3 f D (ix2 r k)
    = taps Z T W1 b1 W2 b2 W3 f D r k := by
  rw [val_main_v36_apply, at_idx]
  exact joined_at Z T W1 b1 W2 b2 W3 f D r k

/-- The reference's result. -/
theorem ref_eq : val_main_v36 (F := Ideal) Z T W1 b1 W2 b2 W3 f D
    = fun i => taps Z T W1 b1 W2 b2 W3 f D (i 0) (i 1) :=
  funext fun i => (congrArg (val_main_v36 (F := Ideal) Z T W1 b1 W2 b2 W3 f D) (eq_ix2 (n0 := 16384) (n1 := 4096) i)).trans
    (ref_apply Z T W1 b1 W2 b2 W3 f D (i 0) (i 1))

end Cert.Taps

end
-- ==== Proof.TapsEq.lean ====
module

public import proofs.«01_k».proof.Proof.TapsRef
public import proofs.«01_k».proof.Proof.Gen.Reference13Ideal.Run
public import Idealize.ShloMosaic.Adequacy
public import Idealize.ShloMosaic.Init
public import Idealize.ShloMosaic.Lib.Quiescent

/-! The filter taps: the kernel's run and the reference's leave the same array. -/

@[expose] public section

noncomputable section

namespace Cert.Taps

open Idealize.ShloMosaic Idealize.ShloMosaic.TcCoe Idealize.SL.Sem

/-- The reference runs to its end and keeps its arguments. -/
theorem reference_runs : quiescent_Reference13Ideal := fun m ρ _ =>
  (θ_run Reference13Ideal.defs _ _).mono (fun r h => ⟨fun c => (h c).2, sem_eq_zero_of_no_sems (by decide) r.2⟩)
    (Reference13Ideal.Value.run (F := Ideal) m ρ)

/-- The kernel and the reference leave the same arrays. -/
theorem equal : algebraic_Kernel13Ideal_Reference13Ideal := by
  intro m ρ m' ρ' _ hagree
  refine ⟨fun c => outs m c,
    (θ_run Kernel13Ideal.defs _ _).mono (fun r h c => ⟨(h c).1.trans (final m c), (h c).2⟩) (Kernel13Ideal.Value.run_blocks (F := Ideal) m ρ), ?_⟩
  refine (θ_run Reference13Ideal.defs _ _).mono (fun r h c => ⟨(h c).1.trans ?_, (h c).2⟩) (Reference13Ideal.Value.run (F := Ideal) m' ρ')
  rw [Reference13Ideal.Read.val_main_v36_eq, ref_eq]
  obtain ⟨h0, h1, h2, h3, h4, h5, h6, h7, h8⟩ := hagree c
  rw [h0, h1, h2, h3, h4, h5, h6, h7, h8]

end Cert.Taps

end
-- ==== Proof.Cast.lean ====
module

public import proofs.«01_k».proof.Defs
public import Idealize.ShloMosaic.Lib.Pointwise

/-! The mask of the weight casts: which blocks hold weights and which hold padding. -/

@[expose] public section

noncomputable section

namespace Cert.Cast

open Idealize.ShloMosaic

/-- The bit that says whether block `q` holds weights, with `valid` such blocks in every `period` of them. -/
def keeps (period valid q : BitVec 32) : BitVec 1 :=
  let p := Scalar.select (Scalar.cmpi .eq period 0#32) 1#32 period
  let r := Scalar.remsi q p
  Scalar.cmpi .slt
    (Scalar.select (Scalar.andi (Scalar.xori (Scalar.cmpi .slt r 0#32) (Scalar.cmpi .slt p 0#32)) (Scalar.cmpi .ne r 0#32))
      (Scalar.addi r p) r) valid

end Cert.Cast

end
-- ==== Proof.CastInValue.lean ====
module

public import proofs.«01_k».proof.Proof.Cast
public import proofs.«01_k».proof.Proof.Gen.Kernel14Ideal.Value
public import Idealize.ShloMosaic.Lib.Pointwise
public import Idealize.ShloMosaic.Lib.Pipeline.ValueKit

/-! The input projection's weights in bfloat16: what the kernel leaves in its result array. -/

@[expose] public section

noncomputable section

namespace Cert.CastIn

open Idealize.ShloMosaic Idealize.ShloMosaic.TcCoe Idealize.SL.Sem
open Cert.Kernel14Ideal Cert.Kernel14Ideal.Gen Cert.Kernel14Ideal.Value Cert.Cast

/-- One weight of the first layer, the columns from 5120 on standing first. -/
def weight (W : S2x4096x11264.Idx → EReal) (x : Fin 4096) (n : Fin 11264) : EReal :=
  W (ix3 0 x ⟨(n.val + 5120) % 11264, Nat.mod_lt _ (by decide)⟩)

/-- One block of the result: the block of weights, or zeros in a block of padding. -/
theorem block_apply (i : grid0.Coords) (x : Vec Ideal S1x4096x256 .f32) (j : S4096x256.Idx) :
    k0_pay1 (F := Ideal) i x j
      = if keeps 44#32 44#32 (BitVec.ofNat 32 (i 1).val) = 1#1 then x (ix3 0 (j 0) (j 1)) else 0 := by
  obtain ⟨r, k, rfl⟩ : ∃ (r : Fin 4096) (k : Fin 256), j = ix2 r k := ⟨j 0, j 1, eq_ix2 j⟩
  by_cases h : keeps 44#32 44#32 (BitVec.ofNat 32 (i 1).val) = 1#1
  · rw [if_pos h]
    have e : k0_pay1 (F := Ideal) i x = truncf .bf16 (shapeCast S4096x256 x shapeCasts_S1x4096x256_S4096x256) bitsLt_bf16_f32 :=
      congrArg (fun y : FVec Ideal S4096x256 .f32 => truncf .bf16 y bitsLt_bf16_f32) (if_pos h)
    rw [e]
    pointwise
  · rw [if_neg h]
    have e : k0_pay1 (F := Ideal) i x
        = truncf .bf16 (broadcast S4096x256 (Scalar.ofBits (F := Ideal) .f32 0x00000000#32)) bitsLt_bf16_f32 :=
      congrArg (fun y : FVec Ideal S4096x256 .f32 => truncf .bf16 y bitsLt_bf16_f32) (if_neg h)
    rw [e]
    pointwise

variable (m : (ℓ : Loc nD τ sig) → Buf (Elt Ideal) ℓ)

/-- The window indices over the grid. The blocks of columns are read from the twentieth on, going round. -/
theorem idx : ∀ t : Fin cfg0.N, win0_0.index t 0 = 0 ∧ win0_0.index t 1 = 0 ∧ win0_0.index t 2 = (t.val + 20) % 44
    ∧ win0_1.index t 0 = 0 ∧ win0_1.index t 1 = t.val ∧ (grid0.coords t 1).val = t.val :=
  (by decide +kernel : ∀ t : Fin grid0.N, _)

/-- No block is padding. -/
theorem kept : ∀ t : Fin 44, keeps 44#32 44#32 (BitVec.ofNat 32 t.val) = 1#1 := by decide +kernel

/-- One entry of the block of weights that a step reads. -/
theorem iblk_at (c : Dev nD) (t : Fin cfg0.N) (x : Fin 4096) (k : Fin 256) (R : Fin 11264)
    (hR : R.val = win0_0.index t 2 * 256 + k.val) :
    iblk m c 0 t (ix3 0 x k) = m ((c : Thread nD τ).loc main_arg0) (ix3 0 x R) := by
  obtain ⟨e0, e1, -⟩ := idx t
  blk_simp [iblk]
  entry_read
  refine congrArg (m ((c : Thread nD τ).loc main_arg0)) ?_
  blk_ext [e0, e1, hR]

/-- A step's block of the result is the array's. -/
theorem block_eq (c : Dev nD) (t : Fin cfg0.N) (x : Fin 4096) (k : Fin 256) (n : Fin 11264) (hn : n.val = t.val * 256 + k.val) :
    (if keeps 44#32 44#32 (BitVec.ofNat 32 t.val) = 1#1 then iblk m c 0 t (ix3 0 x k) else (0 : EReal))
      = weight (m ((c : Thread nD τ).loc main_arg0)) x n := by
  obtain ⟨-, -, e2, -⟩ := idx t
  have ht : t.val < 44 := t.isLt
  unfold weight
  rw [if_pos (kept ⟨t.val, ht⟩)]
  exact iblk_at m c t x k _ (by rw [e2]; dsimp only; omega)

/-- The result array after the run. -/
theorem final (c : Dev nD) : (dats m 0 c).arrAt 1 cfg0.N = fun i => weight (m ((c : Thread nD τ).loc main_arg0)) (i 0) (i 1) := by
  refine (dats m 0 c).arrAt_eq_of_covers 1 _ (by decide +kernel) fun t hf y => ?_
  obtain ⟨-, -, -, e3, e4, e5⟩ := idx t
  have r0 : ((win0_1.blk t).view.emb y 1).val = t.val * 256 + (y 1).val := by blk_simp; rw [e4]
  have r1 : ((win0_1.blk t).view.emb y 0) = y 0 := Fin.ext (by blk_simp; rw [e3]; omega)
  blk_simp
  rw [after0_1]
  frame_out
  refine (block_apply _ _ y).trans ?_
  rw [e5]
  refine (block_eq m c t (y 0) (y 1) _ r0).trans ?_
  exact congrArg (fun a => weight (m ((c : Thread nD τ).loc main_arg0)) a ((win0_1.blk t).view.emb y 1)) r1.symm

end Cert.CastIn

end
-- ==== Proof.CastInRef.lean ====
module

public import proofs.«01_k».proof.Proof.CastInValue
public import proofs.«01_k».proof.Proof.Gen.Reference14Ideal.Read
public import Idealize.ShloMosaic.Lib.KernelVsHost

/-! The input projection's weights in bfloat16: the reference's result, entry by entry. -/

@[expose] public section

noncomputable section

namespace Cert.CastIn

open Idealize.ShloMosaic Idealize.ShloMosaic.TcCoe
open Cert.Reference14Ideal Cert.Reference14Ideal.Gen Cert.Reference14Ideal.Read

/-- One entry of the reference's result. -/
theorem ref_apply (W : FVec Ideal S2x4096x11264 .f32) (x : Fin 4096) (n : Fin 11264) :
    val_main_v5 (F := Ideal) W (ix2 x n) = weight W x n := by
  rw [val_main_v5_apply]
  show val_main_v4 (F := Ideal) W (ix2 x n) = _
  unfold val_main_v4 weight
  by_cases h : n.val < 6144
  · refine (concatenate_apply_piece 1 _ _ (ix2 x n) 0 (by simp) S4096x6144 _ rfl rfl 0 rfl (ix2 x ⟨n.val, h⟩) ?_ ?_).trans ?_
    · exact fun b => match b with
        | 0 => fun _ => rfl
        | 1 => fun hb => absurd rfl hb
    · exact Nat.zero_add _
    · pointwise [val_main_v1, val_main_v0]
      exact congrArg (fun k => W (ix3 0 x k)) (Fin.ext (by dsimp only; omega))
  · refine (concatenate_apply_piece 1 _ _ (ix2 x n) 1 (by simp) S4096x5120 _ rfl rfl 6144 rfl (ix2 x ⟨n.val - 6144, by omega⟩) ?_ ?_).trans ?_
    · exact fun b => match b with
        | 0 => fun _ => rfl
        | 1 => fun hb => absurd rfl hb
    · show 6144 + (n.val - 6144) = n.val; omega
    · pointwise [val_main_v3, val_main_v2]
      exact congrArg (fun k => W (ix3 0 x k)) (Fin.ext (by dsimp only; omega))

/-- The reference's result. -/
theorem ref_eq (W : FVec Ideal S2x4096x11264 .f32) : val_main_v5 (F := Ideal) W = fun i => weight W (i 0) (i 1) :=
  funext fun i => (congrArg (val_main_v5 (F := Ideal) W) (eq_ix2 (n0 := 4096) (n1 := 11264) i)).trans
    (ref_apply W (i 0) (i 1))

end Cert.CastIn

end
-- ==== Proof.CastInEq.lean ====
module

public import proofs.«01_k».proof.Proof.CastInRef
public import proofs.«01_k».proof.Proof.Gen.Reference14Ideal.Run
public import Idealize.ShloMosaic.Adequacy
public import Idealize.ShloMosaic.Init
public import Idealize.ShloMosaic.Lib.Quiescent

/-! The input projection's weights in bfloat16: the kernel's run and the reference's leave the same array. -/

@[expose] public section

noncomputable section

namespace Cert.CastIn

open Idealize.ShloMosaic Idealize.ShloMosaic.TcCoe Idealize.SL.Sem

/-- The reference runs to its end and keeps its arguments. -/
theorem reference_runs : quiescent_Reference14Ideal := fun m ρ _ =>
  (θ_run Reference14Ideal.defs _ _).mono (fun r h => ⟨fun c => (h c).2, sem_eq_zero_of_no_sems (by decide) r.2⟩)
    (Reference14Ideal.Value.run (F := Ideal) m ρ)

/-- The kernel and the reference leave the same arrays. -/
theorem equal : algebraic_Kernel14Ideal_Reference14Ideal := by
  intro m ρ m' ρ' _ hagree
  refine ⟨fun c => fun i => weight (m ((c.tc : Thread Kernel14Ideal.nD Kernel14Ideal.τ).loc Kernel14Ideal.main_arg0)) (i 0) (i 1),
    (θ_run Kernel14Ideal.defs _ _).mono (fun r h c => ⟨(h c).1.trans (final m c), (h c).2⟩) (Kernel14Ideal.Value.run_blocks (F := Ideal) m ρ), ?_⟩
  refine (θ_run Reference14Ideal.defs _ _).mono (fun r h c => ⟨(h c).1.trans ?_, (h c).2⟩) (Reference14Ideal.Value.run (F := Ideal) m' ρ')
  rw [Reference14Ideal.Read.val_main_v5_eq, ref_eq]
  rw [hagree c]
  rfl

end Cert.CastIn

end
-- ==== Proof.CastOutValue.lean ====
module

public import proofs.«01_k».proof.Proof.Cast
public import proofs.«01_k».proof.Proof.Gen.Kernel15Ideal.Value
public import Idealize.ShloMosaic.Lib.Pointwise
public import Idealize.ShloMosaic.Lib.Pipeline.ValueKit

/-! The output projection's weights in bfloat16: what the kernel leaves in its result array. -/

@[expose] public section

noncomputable section

namespace Cert.CastOut

open Idealize.ShloMosaic Idealize.ShloMosaic.TcCoe Idealize.SL.Sem
open Cert.Kernel15Ideal Cert.Kernel15Ideal.Gen Cert.Kernel15Ideal.Value Cert.Cast

/-- One weight of the first layer. -/
def weight (W : S2x4096x4096.Idx → EReal) (x n : Fin 4096) : EReal := W (ix3 0 x n)

/-- One block of the result: the block of weights, or zeros in a block of padding. -/
theorem block_apply (i : grid0.Coords) (x : Vec Ideal S1x4096x256 .f32) (j : S4096x256.Idx) :
    k0_pay1 (F := Ideal) i x j
      = if keeps 16#32 16#32 (BitVec.ofNat 32 (i 1).val) = 1#1 then x (ix3 0 (j 0) (j 1)) else 0 := by
  obtain ⟨r, k, rfl⟩ : ∃ (r : Fin 4096) (k : Fin 256), j = ix2 r k := ⟨j 0, j 1, eq_ix2 j⟩
  by_cases h : keeps 16#32 16#32 (BitVec.ofNat 32 (i 1).val) = 1#1
  · rw [if_pos h]
    have e : k0_pay1 (F := Ideal) i x = truncf .bf16 (shapeCast S4096x256 x shapeCasts_S1x4096x256_S4096x256) bitsLt_bf16_f32 :=
      congrArg (fun y : FVec Ideal S4096x256 .f32 => truncf .bf16 y bitsLt_bf16_f32) (if_pos h)
    rw [e]
    pointwise
  · rw [if_neg h]
    have e : k0_pay1 (F := Ideal) i x
        = truncf .bf16 (broadcast S4096x256 (Scalar.ofBits (F := Ideal) .f32 0x00000000#32)) bitsLt_bf16_f32 :=
      congrArg (fun y : FVec Ideal S4096x256 .f32 => truncf .bf16 y bitsLt_bf16_f32) (if_neg h)
    rw [e]
    pointwise

variable (m : (ℓ : Loc nD τ sig) → Buf (Elt Ideal) ℓ)

/-- The window indices over the grid. The blocks of columns are read in order. -/
theorem idx : ∀ t : Fin cfg0.N, win0_0.index t 0 = 0 ∧ win0_0.index t 1 = 0 ∧ win0_0.index t 2 = t.val
    ∧ win0_1.index t 0 = 0 ∧ win0_1.index t 1 = t.val ∧ (grid0.coords t 1).val = t.val :=
  (by decide +kernel : ∀ t : Fin grid0.N, _)

/-- No block is padding. -/
theorem kept : ∀ t : Fin 16, keeps 16#32 16#32 (BitVec.ofNat 32 t.val) = 1#1 := by decide +kernel

/-- One entry of the block of weights that a step reads. -/
theorem iblk_at (c : Dev nD) (t : Fin cfg0.N) (x : Fin 4096) (k : Fin 256) (R : Fin 4096)
    (hR : R.val = win0_0.index t 2 * 256 + k.val) :
    iblk m c 0 t (ix3 0 x k) = m ((c : Thread nD τ).loc main_arg0) (ix3 0 x R) := by
  obtain ⟨e0, e1, -⟩ := idx t
  blk_simp [iblk]
  entry_read
  refine congrArg (m ((c : Thread nD τ).loc main_arg0)) ?_
  blk_ext [e0, e1, hR]

/-- A step's block of the result is the array's. -/
theorem block_eq (c : Dev nD) (t : Fin cfg0.N) (x : Fin 4096) (k : Fin 256) (n : Fin 4096) (hn : n.val = t.val * 256 + k.val) :
    (if keeps 16#32 16#32 (BitVec.ofNat 32 t.val) = 1#1 then iblk m c 0 t (ix3 0 x k) else (0 : EReal))
      = weight (m ((c : Thread nD τ).loc main_arg0)) x n := by
  obtain ⟨-, -, e2, -⟩ := idx t
  have ht : t.val < 16 := t.isLt
  unfold weight
  rw [if_pos (kept ⟨t.val, ht⟩)]
  exact iblk_at m c t x k _ (by rw [e2]; omega)

/-- The result array after the run. -/
theorem final (c : Dev nD) : (dats m 0 c).arrAt 1 cfg0.N = fun i => weight (m ((c : Thread nD τ).loc main_arg0)) (i 0) (i 1) := by
  refine (dats m 0 c).arrAt_eq_of_covers 1 _ (by decide +kernel) fun t hf y => ?_
  obtain ⟨-, -, -, e3, e4, e5⟩ := idx t
  have r0 : ((win0_1.blk t).view.emb y 1).val = t.val * 256 + (y 1).val := by blk_simp; rw [e4]
  have r1 : ((win0_1.blk t).view.emb y 0) = y 0 := Fin.ext (by blk_simp; rw [e3]; omega)
  blk_simp
  rw [after0_1]
  frame_out
  refine (block_apply _ _ y).trans ?_
  rw [e5]
  refine (block_eq m c t (y 0) (y 1) _ r0).trans ?_
  exact congrArg (fun a => weight (m ((c : Thread nD τ).loc main_arg0)) a ((win0_1.blk t).view.emb y 1)) r1.symm

end Cert.CastOut

end
-- ==== Proof.CastOutRef.lean ====
module

public import proofs.«01_k».proof.Proof.CastOutValue
public import proofs.«01_k».proof.Proof.Gen.Reference15Ideal.Read
public import Idealize.ShloMosaic.Lib.KernelVsHost

/-! The output projection's weights in bfloat16: the reference's result, entry by entry. -/

@[expose] public section

noncomputable section

namespace Cert.CastOut

open Idealize.ShloMosaic Idealize.ShloMosaic.TcCoe
open Cert.Reference15Ideal Cert.Reference15Ideal.Gen Cert.Reference15Ideal.Read

/-- One entry of the reference's result. -/
theorem ref_apply (W : FVec Ideal S2x4096x4096 .f32) (x n : Fin 4096) :
    val_main_v2 (F := Ideal) W (ix2 x n) = weight W x n := by
  pointwise [val_main_v2, val_main_v1, val_main_v0]
  rfl

/-- The reference's result. -/
theorem ref_eq (W : FVec Ideal S2x4096x4096 .f32) : val_main_v2 (F := Ideal) W = fun i => weight W (i 0) (i 1) :=
  funext fun i => (congrArg (val_main_v2 (F := Ideal) W) (eq_ix2 (n0 := 4096) (n1 := 4096) i)).trans
    (ref_apply W (i 0) (i 1))

end Cert.CastOut

end
-- ==== Proof.CastOutEq.lean ====
module

public import proofs.«01_k».proof.Proof.CastOutRef
public import proofs.«01_k».proof.Proof.Gen.Reference15Ideal.Run
public import Idealize.ShloMosaic.Adequacy
public import Idealize.ShloMosaic.Init
public import Idealize.ShloMosaic.Lib.Quiescent

/-! The output projection's weights in bfloat16: the kernel's run and the reference's leave the same array. -/

@[expose] public section

noncomputable section

namespace Cert.CastOut

open Idealize.ShloMosaic Idealize.ShloMosaic.TcCoe Idealize.SL.Sem

/-- The reference runs to its end and keeps its arguments. -/
theorem reference_runs : quiescent_Reference15Ideal := fun m ρ _ =>
  (θ_run Reference15Ideal.defs _ _).mono (fun r h => ⟨fun c => (h c).2, sem_eq_zero_of_no_sems (by decide) r.2⟩)
    (Reference15Ideal.Value.run (F := Ideal) m ρ)

/-- The kernel and the reference leave the same arrays. -/
theorem equal : algebraic_Kernel15Ideal_Reference15Ideal := by
  intro m ρ m' ρ' _ hagree
  refine ⟨fun c => fun i => weight (m ((c.tc : Thread Kernel15Ideal.nD Kernel15Ideal.τ).loc Kernel15Ideal.main_arg0)) (i 0) (i 1),
    (θ_run Kernel15Ideal.defs _ _).mono (fun r h c => ⟨(h c).1.trans (final m c), (h c).2⟩) (Kernel15Ideal.Value.run_blocks (F := Ideal) m ρ), ?_⟩
  refine (θ_run Reference15Ideal.defs _ _).mono (fun r h c => ⟨(h c).1.trans ?_, (h c).2⟩) (Reference15Ideal.Value.run (F := Ideal) m' ρ')
  rw [Reference15Ideal.Read.val_main_v2_eq, ref_eq]
  rw [hagree c]
  rfl

end Cert.CastOut

end
-- ==== Proof.CastUpValue.lean ====
module

public import proofs.«01_k».proof.Proof.Cast
public import proofs.«01_k».proof.Proof.Gen.Kernel16Ideal.Value
public import Idealize.ShloMosaic.Lib.Pointwise
public import Idealize.ShloMosaic.Lib.Pipeline.ValueKit

/-! The first feed-forward weights in bfloat16: what the kernel leaves in its result array. -/

@[expose] public section

noncomputable section

namespace Cert.CastUp

open Idealize.ShloMosaic Idealize.ShloMosaic.TcCoe Idealize.SL.Sem
open Cert.Kernel16Ideal Cert.Kernel16Ideal.Gen Cert.Kernel16Ideal.Value Cert.Cast

/-- One weight of the first layer, each half of the columns being followed by 256 columns of zeros. -/
def weight (W : S2x4096x22016.Idx → EReal) (x : Fin 4096) (n : Fin 22528) : EReal :=
  if h : n.val % 11264 < 11008 then W (ix3 0 x ⟨n.val / 11264 * 11008 + n.val % 11264, by omega⟩) else 0

/-- One block of the result: the block of weights, or zeros in a block of padding. -/
theorem block_apply (i : grid0.Coords) (x : Vec Ideal S1x4096x256 .f32) (j : S4096x256.Idx) :
    k0_pay1 (F := Ideal) i x j
      = if keeps 44#32 43#32 (BitVec.ofNat 32 (i 1).val) = 1#1 then x (ix3 0 (j 0) (j 1)) else 0 := by
  obtain ⟨r, k, rfl⟩ : ∃ (r : Fin 4096) (k : Fin 256), j = ix2 r k := ⟨j 0, j 1, eq_ix2 j⟩
  by_cases h : keeps 44#32 43#32 (BitVec.ofNat 32 (i 1).val) = 1#1
  · rw [if_pos h]
    have e : k0_pay1 (F := Ideal) i x = truncf .bf16 (shapeCast S4096x256 x shapeCasts_S1x4096x256_S4096x256) bitsLt_bf16_f32 :=
      congrArg (fun y : FVec Ideal S4096x256 .f32 => truncf .bf16 y bitsLt_bf16_f32) (if_pos h)
    rw [e]
    pointwise
  · rw [if_neg h]
    have e : k0_pay1 (F := Ideal) i x
        = truncf .bf16 (broadcast S4096x256 (Scalar.ofBits (F := Ideal) .f32 0x00000000#32)) bitsLt_bf16_f32 :=
      congrArg (fun y : FVec Ideal S4096x256 .f32 => truncf .bf16 y bitsLt_bf16_f32) (if_neg h)
    rw [e]
    pointwise

variable (m : (ℓ : Loc nD τ sig) → Buf (Elt Ideal) ℓ)

/-- The window indices over the grid. The blocks of columns are read in order, one block being passed over at the end of each half. -/
theorem idx : ∀ t : Fin cfg0.N, win0_0.index t 0 = 0 ∧ win0_0.index t 1 = 0 ∧ win0_0.index t 2 = min (t.val / 44 * 43 + t.val % 44) 85
    ∧ win0_1.index t 0 = 0 ∧ win0_1.index t 1 = t.val ∧ (grid0.coords t 1).val = t.val :=
  (by decide +kernel : ∀ t : Fin grid0.N, _)

/-- The blocks that hold weights; the others are padding. -/
theorem kept : ∀ t : Fin 88, keeps 44#32 43#32 (BitVec.ofNat 32 t.val) = 1#1 ↔ t.val % 44 < 43 := by decide +kernel

/-- One entry of the block of weights that a step reads. -/
theorem iblk_at (c : Dev nD) (t : Fin cfg0.N) (x : Fin 4096) (k : Fin 256) (R : Fin 22016)
    (hR : R.val = win0_0.index t 2 * 256 + k.val) :
    iblk m c 0 t (ix3 0 x k) = m ((c : Thread nD τ).loc main_arg0) (ix3 0 x R) := by
  obtain ⟨e0, e1, -⟩ := idx t
  blk_simp [iblk]
  entry_read
  refine congrArg (m ((c : Thread nD τ).loc main_arg0)) ?_
  blk_ext [e0, e1, hR]

/-- A step's block of the result is the array's. -/
theorem block_eq (c : Dev nD) (t : Fin cfg0.N) (x : Fin 4096) (k : Fin 256) (n : Fin 22528) (hn : n.val = t.val * 256 + k.val) :
    (if keeps 44#32 43#32 (BitVec.ofNat 32 t.val) = 1#1 then iblk m c 0 t (ix3 0 x k) else (0 : EReal))
      = weight (m ((c : Thread nD τ).loc main_arg0)) x n := by
  obtain ⟨-, -, e2, -⟩ := idx t
  have ht : t.val < 88 := t.isLt
  unfold weight
  by_cases h : t.val % 44 < 43
  · rw [if_pos ((kept ⟨t.val, ht⟩).2 h), dif_pos (by omega)]
    exact iblk_at m c t x k _ (by rw [e2]; dsimp only; omega)
  · rw [if_neg fun hk => h ((kept ⟨t.val, ht⟩).1 hk), dif_neg (by omega)]

/-- The result array after the run. -/
theorem final (c : Dev nD) : (dats m 0 c).arrAt 1 cfg0.N = fun i => weight (m ((c : Thread nD τ).loc main_arg0)) (i 0) (i 1) := by
  refine (dats m 0 c).arrAt_eq_of_covers 1 _ (by decide +kernel) fun t hf y => ?_
  obtain ⟨-, -, -, e3, e4, e5⟩ := idx t
  have r0 : ((win0_1.blk t).view.emb y 1).val = t.val * 256 + (y 1).val := by blk_simp; rw [e4]
  have r1 : ((win0_1.blk t).view.emb y 0) = y 0 := Fin.ext (by blk_simp; rw [e3]; omega)
  blk_simp
  rw [after0_1]
  frame_out
  refine (block_apply _ _ y).trans ?_
  rw [e5]
  refine (block_eq m c t (y 0) (y 1) _ r0).trans ?_
  exact congrArg (fun a => weight (m ((c : Thread nD τ).loc main_arg0)) a ((win0_1.blk t).view.emb y 1)) r1.symm

end Cert.CastUp

end
-- ==== Proof.CastUpRef.lean ====
module

public import proofs.«01_k».proof.Proof.CastUpValue
public import proofs.«01_k».proof.Proof.Gen.Reference16Ideal.Read
public import Idealize.ShloMosaic.Lib.KernelVsHost

/-! The first feed-forward weights in bfloat16: the reference's result, entry by entry. -/

@[expose] public section

noncomputable section

namespace Cert.CastUp

open Idealize.ShloMosaic Idealize.ShloMosaic.TcCoe
open Cert.Reference16Ideal Cert.Reference16Ideal.Gen Cert.Reference16Ideal.Read

/-- The number that pads is zero. -/
theorem padding_zero : FloatOps.sitofp (F := Ideal) .f32 (0#32 : BitVec 32) = (0 : EReal) := by
  show (((0#32 : BitVec 32).toInt : ℝ) : EReal) = 0
  norm_num

/-- The first half of the columns, padded. -/
theorem first_ref (W : FVec Ideal S2x4096x22016 .f32) (x : Fin 4096) (n : Fin 11264) :
    val_main_v2 (F := Ideal) W (ix2 x n)
      = if h : n.val < 11008 then W (ix3 0 x ⟨n.val, by omega⟩) else 0 := by
  unfold val_main_v2
  by_cases h : n.val < 11008
  · rw [dif_pos h]
    refine (pad_apply_of_inside _ _ _ _ _ _ _ (ix2 x n) (ix2 x ⟨n.val, h⟩) ?_).trans ?_
    · exact fun a => match a with
        | 0 => by show x.val = 0 + x.val * (0 + 1); omega
        | 1 => by show n.val = 0 + n.val * (0 + 1); omega
    · pointwise [val_main_v1, val_main_v0]
  · rw [dif_neg h]
    refine (pad_apply_of_not_inside _ _ _ _ _ _ _ (ix2 x n) 1 ?_).trans ?_
    · intro hin
      have h2 : (n.val - 0) / (0 + 1) < 11008 := hin.2.2
      omega
    · exact padding_zero

/-- The second half of the columns, padded. -/
theorem second_ref (W : FVec Ideal S2x4096x22016 .f32) (x : Fin 4096) (n : Fin 11264) :
    val_main_v5 (F := Ideal) W (ix2 x n)
      = if h : n.val < 11008 then W (ix3 0 x ⟨11008 + n.val, by omega⟩) else 0 := by
  unfold val_main_v5
  by_cases h : n.val < 11008
  · rw [dif_pos h]
    refine (pad_apply_of_inside _ _ _ _ _ _ _ (ix2 x n) (ix2 x ⟨n.val, h⟩) ?_).trans ?_
    · exact fun a => match a with
        | 0 => by show x.val = 0 + x.val * (0 + 1); omega
        | 1 => by show n.val = 0 + n.val * (0 + 1); omega
    · pointwise [val_main_v4, val_main_v3]
  · rw [dif_neg h]
    refine (pad_apply_of_not_inside _ _ _ _ _ _ _ (ix2 x n) 1 ?_).trans ?_
    · intro hin
      have h2 : (n.val - 0) / (0 + 1) < 11008 := hin.2.2
      omega
    · exact padding_zero

/-- One entry of the reference's result. -/
theorem ref_apply (W : FVec Ideal S2x4096x22016 .f32) (x : Fin 4096) (n : Fin 22528) :
    val_main_v7 (F := Ideal) W (ix2 x n) = weight W x n := by
  rw [val_main_v7_apply]
  show val_main_v6 (F := Ideal) W (ix2 x n) = _
  unfold val_main_v6 weight
  by_cases h : n.val < 11264
  · refine (concatenate_apply_piece 1 _ _ (ix2 x n) 0 (by simp) S4096x11264 _ rfl rfl 0 rfl (ix2 x ⟨n.val, h⟩) ?_ ?_).trans ?_
    · exact fun b => match b with
        | 0 => fun _ => rfl
        | 1 => fun hb => absurd rfl hb
    · exact Nat.zero_add _
    · refine (first_ref W x _).trans ?_
      by_cases hp : n.val % 11264 < 11008
      · rw [dif_pos hp, dif_pos (by dsimp only; omega)]
        exact congrArg (fun k => W (ix3 0 x k)) (Fin.ext (by dsimp only; omega))
      · rw [dif_neg hp, dif_neg (by dsimp only; omega)]
  · refine (concatenate_apply_piece 1 _ _ (ix2 x n) 1 (by simp) S4096x11264 _ rfl rfl 11264 rfl (ix2 x ⟨n.val - 11264, by omega⟩) ?_ ?_).trans ?_
    · exact fun b => match b with
        | 0 => fun _ => rfl
        | 1 => fun hb => absurd rfl hb
    · show 11264 + (n.val - 11264) = n.val; omega
    · refine (second_ref W x _).trans ?_
      by_cases hp : n.val % 11264 < 11008
      · rw [dif_pos hp, dif_pos (by dsimp only; omega)]
        exact congrArg (fun k => W (ix3 0 x k)) (Fin.ext (by dsimp only; omega))
      · rw [dif_neg hp, dif_neg (by dsimp only; omega)]

/-- The reference's result. -/
theorem ref_eq (W : FVec Ideal S2x4096x22016 .f32) : val_main_v7 (F := Ideal) W = fun i => weight W (i 0) (i 1) :=
  funext fun i => (congrArg (val_main_v7 (F := Ideal) W) (eq_ix2 (n0 := 4096) (n1 := 22528) i)).trans
    (ref_apply W (i 0) (i 1))

end Cert.CastUp

end
-- ==== Proof.CastUpEq.lean ====
module

public import proofs.«01_k».proof.Proof.CastUpRef
public import proofs.«01_k».proof.Proof.Gen.Reference16Ideal.Run
public import Idealize.ShloMosaic.Adequacy
public import Idealize.ShloMosaic.Init
public import Idealize.ShloMosaic.Lib.Quiescent

/-! The first feed-forward weights in bfloat16: the kernel's run and the reference's leave the same array. -/

@[expose] public section

noncomputable section

namespace Cert.CastUp

open Idealize.ShloMosaic Idealize.ShloMosaic.TcCoe Idealize.SL.Sem

/-- The reference runs to its end and keeps its arguments. -/
theorem reference_runs : quiescent_Reference16Ideal := fun m ρ _ =>
  (θ_run Reference16Ideal.defs _ _).mono (fun r h => ⟨fun c => (h c).2, sem_eq_zero_of_no_sems (by decide) r.2⟩)
    (Reference16Ideal.Value.run (F := Ideal) m ρ)

/-- The kernel and the reference leave the same arrays. -/
theorem equal : algebraic_Kernel16Ideal_Reference16Ideal := by
  intro m ρ m' ρ' _ hagree
  refine ⟨fun c => fun i => weight (m ((c.tc : Thread Kernel16Ideal.nD Kernel16Ideal.τ).loc Kernel16Ideal.main_arg0)) (i 0) (i 1),
    (θ_run Kernel16Ideal.defs _ _).mono (fun r h c => ⟨(h c).1.trans (final m c), (h c).2⟩) (Kernel16Ideal.Value.run_blocks (F := Ideal) m ρ), ?_⟩
  refine (θ_run Reference16Ideal.defs _ _).mono (fun r h c => ⟨(h c).1.trans ?_, (h c).2⟩) (Reference16Ideal.Value.run (F := Ideal) m' ρ')
  rw [Reference16Ideal.Read.val_main_v7_eq, ref_eq]
  rw [hagree c]
  rfl

end Cert.CastUp

end
-- ==== Proof.CastDownValue.lean ====
module

public import proofs.«01_k».proof.Proof.Cast
public import proofs.«01_k».proof.Proof.Gen.Kernel17Ideal.Value
public import Idealize.ShloMosaic.Lib.Pointwise
public import Idealize.ShloMosaic.Lib.Pipeline.ValueKit

/-! The second feed-forward weights in bfloat16: what the kernel leaves in its result array. -/

@[expose] public section

noncomputable section

namespace Cert.CastDown

open Idealize.ShloMosaic Idealize.ShloMosaic.TcCoe Idealize.SL.Sem
open Cert.Kernel17Ideal Cert.Kernel17Ideal.Gen Cert.Kernel17Ideal.Value Cert.Cast

/-- One weight of the first layer, the rows being followed by 256 rows of zeros. -/
def weight (W : S2x11008x4096.Idx → EReal) (n : Fin 11264) (k : Fin 4096) : EReal :=
  if h : n.val < 11008 then W (ix3 0 ⟨n.val, h⟩ k) else 0

/-- One block of the result: the block of weights, or zeros in a block of padding. -/
theorem block_apply (i : grid0.Coords) (x : Vec Ideal S1x256x4096 .f32) (j : S256x4096.Idx) :
    k0_pay1 (F := Ideal) i x j
      = if keeps 44#32 43#32 (BitVec.ofNat 32 (i 0).val) = 1#1 then x (ix3 0 (j 0) (j 1)) else 0 := by
  obtain ⟨r, k, rfl⟩ : ∃ (r : Fin 256) (k : Fin 4096), j = ix2 r k := ⟨j 0, j 1, eq_ix2 j⟩
  by_cases h : keeps 44#32 43#32 (BitVec.ofNat 32 (i 0).val) = 1#1
  · rw [if_pos h]
    have e : k0_pay1 (F := Ideal) i x = truncf .bf16 (shapeCast S256x4096 x shapeCasts_S1x256x4096_S256x4096) bitsLt_bf16_f32 :=
      congrArg (fun y : FVec Ideal S256x4096 .f32 => truncf .bf16 y bitsLt_bf16_f32) (if_pos h)
    rw [e]
    pointwise
  · rw [if_neg h]
    have e : k0_pay1 (F := Ideal) i x
        = truncf .bf16 (broadcast S256x4096 (Scalar.ofBits (F := Ideal) .f32 0x00000000#32)) bitsLt_bf16_f32 :=
      congrArg (fun y : FVec Ideal S256x4096 .f32 => truncf .bf16 y bitsLt_bf16_f32) (if_neg h)
    rw [e]
    pointwise

variable (m : (ℓ : Loc nD τ sig) → Buf (Elt Ideal) ℓ)

/-- The window indices over the grid. The blocks of rows are read in order, the last one standing for the padding too. -/
theorem idx : ∀ t : Fin cfg0.N, win0_0.index t 0 = 0 ∧ win0_0.index t 2 = 0 ∧ win0_0.index t 1 = min t.val 42
    ∧ win0_1.index t 1 = 0 ∧ win0_1.index t 0 = t.val ∧ (grid0.coords t 0).val = t.val :=
  (by decide +kernel : ∀ t : Fin grid0.N, _)

/-- The blocks that hold weights; the others are padding. -/
theorem kept : ∀ t : Fin 44, keeps 44#32 43#32 (BitVec.ofNat 32 t.val) = 1#1 ↔ t.val < 43 := by decide +kernel

/-- One entry of the block of weights that a step reads. -/
theorem iblk_at (c : Dev nD) (t : Fin cfg0.N) (x : Fin 256) (k : Fin 4096) (R : Fin 11008)
    (hR : R.val = win0_0.index t 1 * 256 + x.val) :
    iblk m c 0 t (ix3 0 x k) = m ((c : Thread nD τ).loc main_arg0) (ix3 0 R k) := by
  obtain ⟨e0, e1, -⟩ := idx t
  blk_simp [iblk]
  entry_read
  refine congrArg (m ((c : Thread nD τ).loc main_arg0)) ?_
  blk_ext [e0, e1, hR]

/-- A step's block of the result is the array's. -/
theorem block_eq (c : Dev nD) (t : Fin cfg0.N) (x : Fin 256) (k : Fin 4096) (n : Fin 11264) (hn : n.val = t.val * 256 + x.val) :
    (if keeps 44#32 43#32 (BitVec.ofNat 32 t.val) = 1#1 then iblk m c 0 t (ix3 0 x k) else (0 : EReal))
      = weight (m ((c : Thread nD τ).loc main_arg0)) n k := by
  obtain ⟨-, -, e2, -⟩ := idx t
  have ht : t.val < 44 := t.isLt
  unfold weight
  by_cases h : t.val < 43
  · rw [if_pos ((kept ⟨t.val, ht⟩).2 h), dif_pos (by omega)]
    exact iblk_at m c t x k _ (by rw [e2]; dsimp only; omega)
  · rw [if_neg fun hk => h ((kept ⟨t.val, ht⟩).1 hk), dif_neg (by omega)]

/-- The result array after the run. -/
theorem final (c : Dev nD) : (dats m 0 c).arrAt 1 cfg0.N = fun i => weight (m ((c : Thread nD τ).loc main_arg0)) (i 0) (i 1) := by
  refine (dats m 0 c).arrAt_eq_of_covers 1 _ (by decide +kernel) fun t hf y => ?_
  obtain ⟨-, -, -, e3, e4, e5⟩ := idx t
  have r0 : ((win0_1.blk t).view.emb y 0).val = t.val * 256 + (y 0).val := by blk_simp; rw [e4]
  have r1 : ((win0_1.blk t).view.emb y 1) = y 1 := Fin.ext (by blk_simp; rw [e3]; omega)
  blk_simp
  rw [after0_1]
  frame_out
  refine (block_apply _ _ y).trans ?_
  rw [e5]
  refine (block_eq m c t (y 0) (y 1) _ r0).trans ?_
  exact congrArg (fun a => weight (m ((c : Thread nD τ).loc main_arg0)) ((win0_1.blk t).view.emb y 0) a) r1.symm

end Cert.CastDown

end
-- ==== Proof.CastDownRef.lean ====
module

public import proofs.«01_k».proof.Proof.CastDownValue
public import proofs.«01_k».proof.Proof.Gen.Reference17Ideal.Read
public import Idealize.ShloMosaic.Lib.KernelVsHost

/-! The second feed-forward weights in bfloat16: the reference's result, entry by entry. -/

@[expose] public section

noncomputable section

namespace Cert.CastDown

open Idealize.ShloMosaic Idealize.ShloMosaic.TcCoe
open Cert.Reference17Ideal Cert.Reference17Ideal.Gen Cert.Reference17Ideal.Read

/-- The number that pads is zero. -/
theorem padding_zero : FloatOps.sitofp (F := Ideal) .f32 (0#32 : BitVec 32) = (0 : EReal) := by
  show (((0#32 : BitVec 32).toInt : ℝ) : EReal) = 0
  norm_num

/-- One entry of the reference's result. -/
theorem ref_apply (W : FVec Ideal S2x11008x4096 .f32) (n : Fin 11264) (k : Fin 4096) :
    val_main_v3 (F := Ideal) W (ix2 n k) = weight W n k := by
  rw [val_main_v3_apply]
  show val_main_v2 (F := Ideal) W (ix2 n k) = _
  unfold val_main_v2 weight
  by_cases h : n.val < 11008
  · rw [dif_pos h]
    refine (pad_apply_of_inside _ _ _ _ _ _ _ (ix2 n k) (ix2 ⟨n.val, h⟩ k) ?_).trans ?_
    · exact fun a => match a with
        | 0 => by show n.val = 0 + n.val * (0 + 1); omega
        | 1 => by show k.val = 0 + k.val * (0 + 1); omega
    · pointwise [val_main_v1, val_main_v0]
  · rw [dif_neg h]
    refine (pad_apply_of_not_inside _ _ _ _ _ _ _ (ix2 n k) 0 ?_).trans ?_
    · intro hin
      have h2 : (n.val - 0) / (0 + 1) < 11008 := hin.2.2
      omega
    · exact padding_zero

/-- The reference's result. -/
theorem ref_eq (W : FVec Ideal S2x11008x4096 .f32) : val_main_v3 (F := Ideal) W = fun i => weight W (i 0) (i 1) :=
  funext fun i => (congrArg (val_main_v3 (F := Ideal) W) (eq_ix2 (n0 := 11264) (n1 := 4096) i)).trans
    (ref_apply W (i 0) (i 1))

end Cert.CastDown

end
-- ==== Proof.CastDownEq.lean ====
module

public import proofs.«01_k».proof.Proof.CastDownRef
public import proofs.«01_k».proof.Proof.Gen.Reference17Ideal.Run
public import Idealize.ShloMosaic.Adequacy
public import Idealize.ShloMosaic.Init
public import Idealize.ShloMosaic.Lib.Quiescent

/-! The second feed-forward weights in bfloat16: the kernel's run and the reference's leave the same array. -/

@[expose] public section

noncomputable section

namespace Cert.CastDown

open Idealize.ShloMosaic Idealize.ShloMosaic.TcCoe Idealize.SL.Sem

/-- The reference runs to its end and keeps its arguments. -/
theorem reference_runs : quiescent_Reference17Ideal := fun m ρ _ =>
  (θ_run Reference17Ideal.defs _ _).mono (fun r h => ⟨fun c => (h c).2, sem_eq_zero_of_no_sems (by decide) r.2⟩)
    (Reference17Ideal.Value.run (F := Ideal) m ρ)

/-- The kernel and the reference leave the same arrays. -/
theorem equal : algebraic_Kernel17Ideal_Reference17Ideal := by
  intro m ρ m' ρ' _ hagree
  refine ⟨fun c => fun i => weight (m ((c.tc : Thread Kernel17Ideal.nD Kernel17Ideal.τ).loc Kernel17Ideal.main_arg0)) (i 0) (i 1),
    (θ_run Kernel17Ideal.defs _ _).mono (fun r h c => ⟨(h c).1.trans (final m c), (h c).2⟩) (Kernel17Ideal.Value.run_blocks (F := Ideal) m ρ), ?_⟩
  refine (θ_run Reference17Ideal.defs _ _).mono (fun r h c => ⟨(h c).1.trans ?_, (h c).2⟩) (Reference17Ideal.Value.run (F := Ideal) m' ρ')
  rw [Reference17Ideal.Read.val_main_v3_eq, ref_eq]
  rw [hagree c]
  rfl

end Cert.CastDown

end
-- ==== Proof.UpTile.lean ====
module

public import proofs.«01_k».proof.Defs
public import proofs.«01_k».proof.Proof.Gen.KernelIdeal.Skeleton
public import Idealize.ShloMosaic.Lib.Pointwise

/-!
One result tile of the fused up-projection: 256 rows by 256 columns of the gated product, from 272 rows of the two
halves of the up-projection. The kernel computes eight such tiles per grid point, and its text cuts the computation into
named parts differently in each: here every one of them is brought to the same formula.
-/

@[expose] public section

noncomputable section

namespace Cert.UpGate

open Idealize.ShloMosaic Idealize.ShloMosaic.TcCoe
open Cert.KernelIdeal Cert.KernelIdeal.Gen

/-- The word the kernel writes for one half. -/
abbrev half : EReal := Ideal.ofBits .f32 0x3F000000#32

/-- The width-3 convolution along the rows, at row `r` of the tile (row `r + 8` of the loaded strip). -/
def conv (x : S1x1x272x256.Idx → EReal) (w : S3x256.Idx → EReal) (r l : Fin 256) : EReal :=
  w (ix2 0 l) * x (ix4 0 0 ⟨r.val + 7, by omega⟩ l) + w (ix2 1 l) * x (ix4 0 0 ⟨r.val + 8, by omega⟩ l)
    + w (ix2 2 l) * x (ix4 0 0 ⟨r.val + 9, by omega⟩ l)

/-- The gate as the kernel writes it: half of the input, plus that half times its hyperbolic tangent, times the value. -/
def gate (g v : EReal) : EReal := (half * g + half * g * Ideal.tanh (half * g)) * v

/-- One tile. -/
def tile (g : S1x1x272x256.Idx → EReal) (cg : S3x256.Idx → EReal) (v : S1x1x272x256.Idx → EReal) (cv : S3x256.Idx → EReal)
    (j : S256x256.Idx) : EReal :=
  gate (conv g cg (j 0) (j 1)) (conv v cv (j 0) (j 1))

/-- The three rows a turned strip is read at, in the strip's own coordinates. -/
theorem rows (r : Fin 256) : (r.val + 8 + 272 - 1) % 272 = r.val + 7 ∧ 8 + r.val = r.val + 8 ∧
    (r.val + 8 + 272 - 271) % 272 = r.val + 9 := by omega

variable (g : Vec Ideal S1x1x272x256 .f32) (cg : Vec Ideal S3x256 .f32)
  (v : Vec Ideal S1x1x272x256 .f32) (cv : Vec Ideal S3x256 .f32) (j : S256x256.Idx)

/-- The first stored tile of the left half of the columns is the gated tile. -/
theorem tile0 : k0_pay10 (k0_pay8 g cg) (k0_pay9 g cg) v cv j = tile g cg v cv j := by
  obtain ⟨e7, e8, e9⟩ := rows (j 0)
  pointwise [k0_pay10, k0_pay8, k0_pay9, k0_pay7]
  simp only [e7, e8, e9]
  rfl

/-- The second stored tile of the left half of the columns is the gated tile. -/
theorem tile1 : k0_pay15 (k0_pay12 g cg) (k0_pay13 cg) (k0_pay14 g) v cv j = tile g cg v cv j := by
  obtain ⟨e7, e8, e9⟩ := rows (j 0)
  pointwise [k0_pay15, k0_pay12, k0_pay13, k0_pay14, k0_pay11]
  simp only [e7, e8, e9]
  rfl

/-- The third stored tile of the left half of the columns is the gated tile. -/
theorem tile2 : k0_pay19 (k0_pay16 g) (k0_pay17 g cg) (k0_pay18 cg) v cv j = tile g cg v cv j := by
  obtain ⟨e7, e8, e9⟩ := rows (j 0)
  pointwise [k0_pay19, k0_pay16, k0_pay17, k0_pay18]
  simp only [e7, e8, e9]
  rfl

/-- The fourth stored tile of the left half of the columns is the gated tile. -/
theorem tile3 : k0_pay23 (k0_pay20 g) cg (k0_pay21 g cg) (k0_pay22 g cg) v cv j = tile g cg v cv j := by
  obtain ⟨e7, e8, e9⟩ := rows (j 0)
  pointwise [k0_pay23, k0_pay20, k0_pay21, k0_pay22]
  simp only [e7, e8, e9]
  rfl

/-- The first stored tile of the right half of the columns is the gated tile. -/
theorem tile4 : k0_pay31 (k0_pay26 g cg) (k0_pay28 v cv) (k0_pay29 cv) (k0_pay30 v) j = tile g cg v cv j := by
  obtain ⟨e7, e8, e9⟩ := rows (j 0)
  pointwise [k0_pay31, k0_pay26, k0_pay28, k0_pay29, k0_pay30, k0_pay27]
  simp only [e7, e8, e9]
  rfl

/-- The second stored tile of the right half of the columns is the gated tile. -/
theorem tile5 : k0_pay36 (k0_pay32 g cg) (k0_pay33 v) (k0_pay34 v cv) (k0_pay35 cv) j = tile g cg v cv j := by
  obtain ⟨e7, e8, e9⟩ := rows (j 0)
  pointwise [k0_pay36, k0_pay32, k0_pay33, k0_pay34, k0_pay35]
  simp only [e7, e8, e9]
  rfl

/-- The third stored tile of the right half of the columns is the gated tile. -/
theorem tile6 : k0_pay41 (k0_pay37 g cg) (k0_pay38 v) cv (k0_pay39 v cv) (k0_pay40 v cv) j = tile g cg v cv j := by
  obtain ⟨e7, e8, e9⟩ := rows (j 0)
  pointwise [k0_pay41, k0_pay37, k0_pay38, k0_pay39, k0_pay40]
  simp only [e7, e8, e9]
  rfl

/-- The fourth stored tile of the right half of the columns is the gated tile. -/
theorem tile7 : k0_pay1 (k0_pay42 g cg) (k0_pay43 v) cv (k0_pay44 v cv) (k0_pay45 cv) j = tile g cg v cv j := by
  obtain ⟨e7, e8, e9⟩ := rows (j 0)
  pointwise [k0_pay1, k0_pay42, k0_pay43, k0_pay44, k0_pay45]
  simp only [e7, e8, e9]
  rfl

end Cert.UpGate

end
-- ==== Proof.UpBlock.lean ====
module

public import proofs.«01_k».proof.Proof.UpTile
public import proofs.«01_k».proof.Proof.Gen.KernelIdeal.Value
public import Idealize.ShloMosaic.Lib.Pipeline.ValueKit

/-!
One result block of the fused up-projection: 1024 rows by 512 columns, from the 1056 rows the kernel keeps (a block of
rows with sixteen neighbours on each side) and the weights' column blocks. The products are kept in a scratch of four
slabs (gate or value, left or right half of the columns); the block is written as eight tiles.
-/

@[expose] public section

noncomputable section

namespace Cert.UpGate

open Idealize.ShloMosaic Idealize.ShloMosaic.TcCoe
open Cert.KernelIdeal Cert.KernelIdeal.Gen

/-- A row of `A` times a column of `W`. -/
def up {n p : Nat} (A : (⟨2, ![n, 4096]⟩ : Shape).Idx → EReal) (W : (⟨2, ![4096, p]⟩ : Shape).Idx → EReal) (r : Fin n)
    (c : Fin p) : EReal :=
  ∑ k : Fin 4096, A (ix2 r k) * W (ix2 k c)

/-- The convolution of the products' rows, at row `r` of the block: rows `r + 15`, `r + 16`, `r + 17` of the kept ones. -/
def conv3 (A : S1056x4096.Idx → EReal) (W : S4096x512.Idx → EReal) (C : S3x512.Idx → EReal) (r : Fin 1024) (c : Fin 512) :
    EReal :=
  C (ix2 0 c) * up A W ⟨r.val + 15, by omega⟩ c + C (ix2 1 c) * up A W ⟨r.val + 16, by omega⟩ c
    + C (ix2 2 c) * up A W ⟨r.val + 17, by omega⟩ c

/-- The block: the gated product of the two convolutions. -/
def block (A : S1056x4096.Idx → EReal) (Wg Wv : S4096x512.Idx → EReal) (Cg Cv : S3x512.Idx → EReal) (j : S1024x512.Idx) :
    EReal :=
  gate (conv3 A Wg Cg (j 0) (j 1)) (conv3 A Wv Cv (j 0) (j 1))

variable (A : Vec Ideal S1056x4096 .bf16) (Wg Wv : Vec Ideal S4096x512 .bf16) (Cg Cv : Vec Ideal S3x512 .f32)

/-- The four slabs of products as one array: first axis gate or value, second axis the half of the columns. -/
def slabs (j : S2x2x1056x256.Idx) : EReal :=
  up A (if (j 0).val = 0 then Wg else Wv) (j 2) ⟨256 * (j 1).val + (j 3).val, by
    have h1 : (j 1).val < 2 := (j 1).isLt
    have h3 : (j 3).val < 256 := (j 3).isLt
    omega⟩

/-- A half of a column block. -/
abbrev half_cols (W : Vec Ideal S4096x512 .bf16) (o : Fin 2 → Nat) (inb : ∀ a, o a + S4096x256.size a ≤ S4096x512.size a) :
    Vec Ideal S4096x256 .bf16 :=
  View.ld W (Rect.unit (s := S4096x512) o S4096x256.size inb)

/-- A half of the convolution's taps. -/
abbrev taps (C : Vec Ideal S3x512 .f32) (o : Fin 2 → Nat) (inb : ∀ a, o a + S3x256.size a ≤ S3x512.size a) :
    Vec Ideal S3x256 .f32 :=
  View.ld C (Rect.unit (s := S3x512) o S3x256.size inb)

/-- A tap of a half is the tap of the whole at its column. -/
theorem taps_apply (C : Vec Ideal S3x512 .f32) (o : Nat) (inb : ∀ a, ![0, o] a + S3x256.size a ≤ S3x512.size a) (q : Fin 3)
    (l : Fin 256) (c : Fin 512) (hc : c.val = o + l.val) : taps C ![0, o] inb (ix2 q l) = C (ix2 q c) := by
  refine View.ld_unit_apply_of C _ _ inb _ _ fun a => ?_
  match a with
  | ⟨0, _⟩ => exact (Nat.zero_add _).symm
  | ⟨1, _⟩ => exact hc

/-- The first half's two slabs as they are stored. -/
abbrev stores0 : List (View.Piece (Elt Ideal) S2x2x1056x256 .f32) :=
  [⟨Rect.unit ![1, 0, 0, 0] ![1, 1, 1056, 256] inb_S2x2x1056x256_S1x1x1056x256_1_0_0_0,
      k0_pay6 A (half_cols Wv ![0, 0] inb_S4096x512_S4096x256_0_0)⟩,
    ⟨Rect.unit ![0, 0, 0, 0] ![1, 1, 1056, 256] inb_S2x2x1056x256_S1x1x1056x256_0_0_0_0,
      k0_pay5 A (half_cols Wg ![0, 0] inb_S4096x512_S4096x256_0_0)⟩]

/-- All four slabs as they are stored. -/
abbrev stores1 : List (View.Piece (Elt Ideal) S2x2x1056x256 .f32) :=
  ⟨Rect.unit ![1, 1, 0, 0] ![1, 1, 1056, 256] inb_S2x2x1056x256_S1x1x1056x256_1_1_0_0,
      k0_pay25 A (half_cols Wv ![0, 256] inb_S4096x512_S4096x256_0_256)⟩ ::
    ⟨Rect.unit ![0, 1, 0, 0] ![1, 1, 1056, 256] inb_S2x2x1056x256_S1x1x1056x256_0_1_0_0,
      k0_pay24 A (half_cols Wg ![0, 256] inb_S4096x512_S4096x256_0_256)⟩ :: stores0 A Wg Wv

/-- A stored slab is its part of the array of slabs. -/
theorem slab_eq (s h : Fin 2) (W : Vec Ideal S4096x512 .bf16) (hW : W = if s.val = 0 then Wg else Wv) (o : Nat)
    (ho : o = 256 * h.val) (inb : ∀ a, ![0, o] a + S4096x256.size a ≤ S4096x512.size a)
    (inb' : ∀ a, ![s.val, h.val, 0, 0] a + S1x1x1056x256.size a ≤ S2x2x1056x256.size a) (x : S1x1x1056x256.Idx) :
    ∑ k : Fin 4096, A (ix2 (x 2) k) * half_cols W ![0, o] inb (ix2 k (x 3))
      = slabs A Wg Wv ((Rect.unit (s := S2x2x1056x256) ![s.val, h.val, 0, 0] S1x1x1056x256.size inb').emb x) := by
  have x0 : (x 0).val < 1 := (x 0).isLt
  have x1 : (x 1).val < 1 := (x 1).isLt
  have e : ∀ a, ((Rect.unit (s := S2x2x1056x256) ![s.val, h.val, 0, 0] S1x1x1056x256.size inb').emb x a).val
      = ![s.val, h.val, 0, 0] a + (x a).val :=
    fun a => Rect.idx_unit_val (s := S2x2x1056x256) ![s.val, h.val, 0, 0] S1x1x1056x256.size inb' x a
  have e0 : ((Rect.unit (s := S2x2x1056x256) ![s.val, h.val, 0, 0] S1x1x1056x256.size inb').emb x 0).val = s.val + (x 0).val := e 0
  have e1 : ((Rect.unit (s := S2x2x1056x256) ![s.val, h.val, 0, 0] S1x1x1056x256.size inb').emb x 1).val = h.val + (x 1).val := e 1
  have e2 : ((Rect.unit (s := S2x2x1056x256) ![s.val, h.val, 0, 0] S1x1x1056x256.size inb').emb x 2).val = (x 2).val := (e 2).trans (Nat.zero_add _)
  have e3 : ((Rect.unit (s := S2x2x1056x256) ![s.val, h.val, 0, 0] S1x1x1056x256.size inb').emb x 3).val = (x 3).val := (e 3).trans (Nat.zero_add _)
  unfold slabs up
  rw [show (if ((Rect.unit (s := S2x2x1056x256) ![s.val, h.val, 0, 0] S1x1x1056x256.size inb').emb x 0).val = 0
    then Wg else Wv) = W by rw [hW, e0, show (x 0).val = 0 by omega, Nat.add_zero]]
  refine Finset.sum_congr (M := EReal) rfl fun k _ => ?_
  congr 1
  · refine congrArg A (funext fun a => ?_)
    match a with
    | ⟨0, _⟩ => exact Fin.ext e2.symm
    | ⟨1, _⟩ => rfl
  · refine View.ld_unit_apply_of W _ _ inb _ _ fun a => ?_
    match a with
    | ⟨0, _⟩ => exact (Nat.zero_add _).symm
    | ⟨1, _⟩ =>
      show 256 * _ + _ = o + (x 3).val
      rw [e1, e3]; omega

/-- The four stores' payloads are products. -/
theorem pay5 (W : Vec Ideal S4096x256 .bf16) (x : S1x1x1056x256.Idx) :
    k0_pay5 (F := Ideal) A W x = ∑ k : Fin 4096, A (ix2 (x 2) k) * W (ix2 k (x 3)) := by
  pointwise [k0_pay5]
theorem pay6 (W : Vec Ideal S4096x256 .bf16) (x : S1x1x1056x256.Idx) :
    k0_pay6 (F := Ideal) A W x = ∑ k : Fin 4096, A (ix2 (x 2) k) * W (ix2 k (x 3)) := by
  pointwise [k0_pay6]
theorem pay24 (W : Vec Ideal S4096x256 .bf16) (x : S1x1x1056x256.Idx) :
    k0_pay24 (F := Ideal) A W x = ∑ k : Fin 4096, A (ix2 (x 2) k) * W (ix2 k (x 3)) := by
  pointwise [k0_pay24]
theorem pay25 (W : Vec Ideal S4096x256 .bf16) (x : S1x1x1056x256.Idx) :
    k0_pay25 (F := Ideal) A W x = ∑ k : Fin 4096, A (ix2 (x 2) k) * W (ix2 k (x 3)) := by
  pointwise [k0_pay25]

/-- Every store of the first half is its part of the array of slabs. -/
theorem stores0_eq : ∀ p ∈ stores0 A Wg Wv, ∀ x : p.1.shape.Idx, p.2 x = slabs A Wg Wv (p.1.emb x) := by
  intro p hp
  simp only [List.mem_cons, List.not_mem_nil, or_false] at hp
  rcases hp with rfl | rfl
  · exact fun x => (pay6 A _ x).trans (slab_eq A Wg Wv 1 0 Wv rfl 0 rfl _ inb_S2x2x1056x256_S1x1x1056x256_1_0_0_0 x)
  · exact fun x => (pay5 A _ x).trans (slab_eq A Wg Wv 0 0 Wg rfl 0 rfl _ inb_S2x2x1056x256_S1x1x1056x256_0_0_0_0 x)

/-- Every one of the four stores is its part of the array of slabs. -/
theorem stores1_eq : ∀ p ∈ stores1 A Wg Wv, ∀ x : p.1.shape.Idx, p.2 x = slabs A Wg Wv (p.1.emb x) := by
  intro p hp
  rcases List.mem_cons.mp hp with rfl | hp
  · exact fun x => (pay25 A _ x).trans (slab_eq A Wg Wv 1 1 Wv rfl 256 rfl _ inb_S2x2x1056x256_S1x1x1056x256_1_1_0_0 x)
  · rcases List.mem_cons.mp hp with rfl | hp
    · exact fun x => (pay24 A _ x).trans (slab_eq A Wg Wv 0 1 Wg rfl 256 rfl _ inb_S2x2x1056x256_S1x1x1056x256_0_1_0_0 x)
    · exact stores0_eq A Wg Wv p hp

/-- A strip of 272 rows read back from the slabs, after the first half's stores. -/
abbrev strip0 (o : Fin 4 → Nat) (inb : ∀ a, o a + S1x1x272x256.size a ≤ S2x2x1056x256.size a) :
    Vec Ideal S1x1x272x256 .f32 :=
  (View.whole cc0_scratch1).readCov (stores0 A Wg Wv) (Rect.unit (s := S2x2x1056x256) o S1x1x272x256.size inb).toLoadRect

/-- The same after all four stores. -/
abbrev strip1 (o : Fin 4 → Nat) (inb : ∀ a, o a + S1x1x272x256.size a ≤ S2x2x1056x256.size a) :
    Vec Ideal S1x1x272x256 .f32 :=
  (View.whole cc0_scratch1).readCov (stores1 A Wg Wv) (Rect.unit (s := S2x2x1056x256) o S1x1x272x256.size inb).toLoadRect

/-- An index of a slab lies in the slab's rectangle. -/
theorem mem_slab (s h : Nat) (inb' : ∀ a, ![s, h, 0, 0] a + S1x1x1056x256.size a ≤ S2x2x1056x256.size a)
    (y : S2x2x1056x256.Idx) (h0 : (y 0).val = s) (h1 : (y 1).val = h) :
    y ∈ (Rect.unit (s := S2x2x1056x256) ![s, h, 0, 0] S1x1x1056x256.size inb').set := by
  have e : (Rect.unit (s := S2x2x1056x256) ![s, h, 0, 0] S1x1x1056x256.size inb').emb (ix4 0 0 (y 2) (y 3)) = y := by
    refine funext fun a => Fin.ext ((Rect.idx_unit_val _ _ _ _ a).trans ?_)
    match a with
    | ⟨0, _⟩ => exact h0.symm
    | ⟨1, _⟩ => exact h1.symm
    | ⟨2, _⟩ => exact Nat.zero_add _
    | ⟨3, _⟩ => exact Nat.zero_add _
  rw [← e]
  exact LoadRect.idx_mem _ _

/-- A row of a strip is a row of the products. -/
theorem strip0_apply (s : Fin 2) (o : Nat) (inb : ∀ a, ![s.val, 0, o, 0] a + S1x1x272x256.size a ≤ S2x2x1056x256.size a)
    (a : Fin 272) (l : Fin 256) : strip0 A Wg Wv ![s.val, 0, o, 0] inb (ix4 0 0 a l)
      = slabs A Wg Wv (ix4 s 0 ⟨o + a.val, by have := inb 2; simp at this; omega⟩ l) := by
  rw [strip0, View.readCov_eq_canon']
  have e : (Rect.unit (s := S2x2x1056x256) ![s.val, 0, o, 0] S1x1x272x256.size inb).toLoadRect.idx (ix4 0 0 a l)
      = (ix4 s 0 ⟨o + a.val, by have := inb 2; simp at this; omega⟩ l : S2x2x1056x256.Idx) := by
    refine funext fun b => Fin.ext ((Rect.idx_unit_val _ _ _ _ b).trans ?_)
    match b with
    | ⟨0, _⟩ => rfl
    | ⟨1, _⟩ => rfl
    | ⟨2, _⟩ => rfl
    | ⟨3, _⟩ => exact Nat.zero_add _
  show View.canon _ _ = _
  rw [e]
  refine View.canon_apply_of_pieces (Val := Elt Ideal) (e := .f32) (slabs A Wg Wv) _ (stores0_eq A Wg Wv) _ ?_
  match s with
  | 0 => exact ⟨_, List.mem_cons_of_mem _ (List.mem_cons_self ..), mem_slab 0 0 inb_S2x2x1056x256_S1x1x1056x256_0_0_0_0 _ rfl rfl⟩
  | 1 => exact ⟨_, List.mem_cons_self .., mem_slab 1 0 inb_S2x2x1056x256_S1x1x1056x256_1_0_0_0 _ rfl rfl⟩

/-- The same for the other half of the columns. -/
theorem strip1_apply (s : Fin 2) (o : Nat) (inb : ∀ a, ![s.val, 1, o, 0] a + S1x1x272x256.size a ≤ S2x2x1056x256.size a)
    (a : Fin 272) (l : Fin 256) : strip1 A Wg Wv ![s.val, 1, o, 0] inb (ix4 0 0 a l)
      = slabs A Wg Wv (ix4 s 1 ⟨o + a.val, by have := inb 2; simp at this; omega⟩ l) := by
  rw [strip1, View.readCov_eq_canon']
  have e : (Rect.unit (s := S2x2x1056x256) ![s.val, 1, o, 0] S1x1x272x256.size inb).toLoadRect.idx (ix4 0 0 a l)
      = (ix4 s 1 ⟨o + a.val, by have := inb 2; simp at this; omega⟩ l : S2x2x1056x256.Idx) := by
    refine funext fun b => Fin.ext ((Rect.idx_unit_val _ _ _ _ b).trans ?_)
    match b with
    | ⟨0, _⟩ => rfl
    | ⟨1, _⟩ => rfl
    | ⟨2, _⟩ => rfl
    | ⟨3, _⟩ => exact Nat.zero_add _
  show View.canon _ _ = _
  rw [e]
  refine View.canon_apply_of_pieces (Val := Elt Ideal) (e := .f32) (slabs A Wg Wv) _ (stores1_eq A Wg Wv) _ ?_
  match s with
  | 0 => exact ⟨_, List.mem_cons_of_mem _ (List.mem_cons_self ..), mem_slab 0 1 inb_S2x2x1056x256_S1x1x1056x256_0_1_0_0 _ rfl rfl⟩
  | 1 => exact ⟨_, List.mem_cons_self .., mem_slab 1 1 inb_S2x2x1056x256_S1x1x1056x256_1_1_0_0 _ rfl rfl⟩

/-- The slabs at a gate index and at a value index. -/
theorem spread_gate (h : Fin 2) (r : Fin 1056) (l : Fin 256) :
    slabs A Wg Wv (ix4 0 h r l) = up A Wg r ⟨256 * h.val + l.val, by omega⟩ := rfl
theorem spread_value (h : Fin 2) (r : Fin 1056) (l : Fin 256) :
    slabs A Wg Wv (ix4 1 h r l) = up A Wv r ⟨256 * h.val + l.val, by omega⟩ := rfl

/-- A tile whose strips are rows of the products, and whose taps are the block's, is its part of the block. -/
theorem tile_eq (g : S1x1x272x256.Idx → EReal) (cg : S3x256.Idx → EReal) (v : S1x1x272x256.Idx → EReal)
    (cv : S3x256.Idx → EReal) (x : S256x256.Idx) (j : S1024x512.Idx) (r0 c0 : Nat)
    (h0 : (j 0).val = r0 + (x 0).val) (h1 : (j 1).val = c0 + (x 1).val)
    (hg : ∀ (a : Fin 272) (l : Fin 256) (R : Fin 1056) (c : Fin 512), R.val = 8 + r0 + a.val → c.val = c0 + l.val →
      g (ix4 0 0 a l) = up A Wg R c)
    (hv : ∀ (a : Fin 272) (l : Fin 256) (R : Fin 1056) (c : Fin 512), R.val = 8 + r0 + a.val → c.val = c0 + l.val →
      v (ix4 0 0 a l) = up A Wv R c)
    (hcg : ∀ (q : Fin 3) (l : Fin 256) (c : Fin 512), c.val = c0 + l.val → cg (ix2 q l) = Cg (ix2 q c))
    (hcv : ∀ (q : Fin 3) (l : Fin 256) (c : Fin 512), c.val = c0 + l.val → cv (ix2 q l) = Cv (ix2 q c)) :
    tile g cg v cv x = block A Wg Wv Cg Cv j := by
  have r7 : (j 0).val + 15 = 8 + r0 + ((x 0).val + 7) := by omega
  have r8 : (j 0).val + 16 = 8 + r0 + ((x 0).val + 8) := by omega
  have r9 : (j 0).val + 17 = 8 + r0 + ((x 0).val + 9) := by omega
  unfold tile block conv conv3
  rw [hcg 0 (x 1) (j 1) h1, hcg 1 (x 1) (j 1) h1, hcg 2 (x 1) (j 1) h1, hcv 0 (x 1) (j 1) h1, hcv 1 (x 1) (j 1) h1,
    hcv 2 (x 1) (j 1) h1, hg _ (x 1) ⟨_, _⟩ (j 1) r7 h1, hg _ (x 1) ⟨_, _⟩ (j 1) r8 h1, hg _ (x 1) ⟨_, _⟩ (j 1) r9 h1,
    hv _ (x 1) ⟨_, _⟩ (j 1) r7 h1, hv _ (x 1) ⟨_, _⟩ (j 1) r8 h1, hv _ (x 1) ⟨_, _⟩ (j 1) r9 h1]

/-- The eight tiles as they are stored. -/
abbrev tiles : List (View.Piece (Elt Ideal) S1024x512 .bf16) :=
  [⟨Rect.unit ![768, 256] ![256, 256] inb_S1024x512_S256x256_768_256,
      k0_pay1 (k0_pay42 (strip1 A Wg Wv ![0, 1, 776, 0] inb_S2x2x1056x256_S1x1x272x256_0_1_776_0) (taps Cg ![0, 256] inb_S3x512_S3x256_0_256))
        (k0_pay43 (strip1 A Wg Wv ![1, 1, 776, 0] inb_S2x2x1056x256_S1x1x272x256_1_1_776_0)) (taps Cv ![0, 256] inb_S3x512_S3x256_0_256)
        (k0_pay44 (strip1 A Wg Wv ![1, 1, 776, 0] inb_S2x2x1056x256_S1x1x272x256_1_1_776_0) (taps Cv ![0, 256] inb_S3x512_S3x256_0_256))
        (k0_pay45 (taps Cv ![0, 256] inb_S3x512_S3x256_0_256))⟩,
    ⟨Rect.unit ![512, 256] ![256, 256] inb_S1024x512_S256x256_512_256,
      k0_pay41 (k0_pay37 (strip1 A Wg Wv ![0, 1, 520, 0] inb_S2x2x1056x256_S1x1x272x256_0_1_520_0) (taps Cg ![0, 256] inb_S3x512_S3x256_0_256))
        (k0_pay38 (strip1 A Wg Wv ![1, 1, 520, 0] inb_S2x2x1056x256_S1x1x272x256_1_1_520_0)) (taps Cv ![0, 256] inb_S3x512_S3x256_0_256)
        (k0_pay39 (strip1 A Wg Wv ![1, 1, 520, 0] inb_S2x2x1056x256_S1x1x272x256_1_1_520_0) (taps Cv ![0, 256] inb_S3x512_S3x256_0_256))
        (k0_pay40 (strip1 A Wg Wv ![1, 1, 520, 0] inb_S2x2x1056x256_S1x1x272x256_1_1_520_0) (taps Cv ![0, 256] inb_S3x512_S3x256_0_256))⟩,
    ⟨Rect.unit ![256, 256] ![256, 256] inb_S1024x512_S256x256_256_256,
      k0_pay36 (k0_pay32 (strip1 A Wg Wv ![0, 1, 264, 0] inb_S2x2x1056x256_S1x1x272x256_0_1_264_0) (taps Cg ![0, 256] inb_S3x512_S3x256_0_256))
        (k0_pay33 (strip1 A Wg Wv ![1, 1, 264, 0] inb_S2x2x1056x256_S1x1x272x256_1_1_264_0))
        (k0_pay34 (strip1 A Wg Wv ![1, 1, 264, 0] inb_S2x2x1056x256_S1x1x272x256_1_1_264_0) (taps Cv ![0, 256] inb_S3x512_S3x256_0_256))
        (k0_pay35 (taps Cv ![0, 256] inb_S3x512_S3x256_0_256))⟩,
    ⟨Rect.unit ![0, 256] ![256, 256] inb_S1024x512_S256x256_0_256,
      k0_pay31 (k0_pay26 (strip1 A Wg Wv ![0, 1, 8, 0] inb_S2x2x1056x256_S1x1x272x256_0_1_8_0) (taps Cg ![0, 256] inb_S3x512_S3x256_0_256))
        (k0_pay28 (strip1 A Wg Wv ![1, 1, 8, 0] inb_S2x2x1056x256_S1x1x272x256_1_1_8_0) (taps Cv ![0, 256] inb_S3x512_S3x256_0_256))
        (k0_pay29 (taps Cv ![0, 256] inb_S3x512_S3x256_0_256))
        (k0_pay30 (strip1 A Wg Wv ![1, 1, 8, 0] inb_S2x2x1056x256_S1x1x272x256_1_1_8_0))⟩,
    ⟨Rect.unit ![768, 0] ![256, 256] inb_S1024x512_S256x256_768_0,
      k0_pay23 (k0_pay20 (strip0 A Wg Wv ![0, 0, 776, 0] inb_S2x2x1056x256_S1x1x272x256_0_0_776_0)) (taps Cg ![0, 0] inb_S3x512_S3x256_0_0)
        (k0_pay21 (strip0 A Wg Wv ![0, 0, 776, 0] inb_S2x2x1056x256_S1x1x272x256_0_0_776_0) (taps Cg ![0, 0] inb_S3x512_S3x256_0_0))
        (k0_pay22 (strip0 A Wg Wv ![0, 0, 776, 0] inb_S2x2x1056x256_S1x1x272x256_0_0_776_0) (taps Cg ![0, 0] inb_S3x512_S3x256_0_0))
        (strip0 A Wg Wv ![1, 0, 776, 0] inb_S2x2x1056x256_S1x1x272x256_1_0_776_0) (taps Cv ![0, 0] inb_S3x512_S3x256_0_0)⟩,
    ⟨Rect.unit ![512, 0] ![256, 256] inb_S1024x512_S256x256_512_0,
      k0_pay19 (k0_pay16 (strip0 A Wg Wv ![0, 0, 520, 0] inb_S2x2x1056x256_S1x1x272x256_0_0_520_0))
        (k0_pay17 (strip0 A Wg Wv ![0, 0, 520, 0] inb_S2x2x1056x256_S1x1x272x256_0_0_520_0) (taps Cg ![0, 0] inb_S3x512_S3x256_0_0))
        (k0_pay18 (taps Cg ![0, 0] inb_S3x512_S3x256_0_0))
        (strip0 A Wg Wv ![1, 0, 520, 0] inb_S2x2x1056x256_S1x1x272x256_1_0_520_0) (taps Cv ![0, 0] inb_S3x512_S3x256_0_0)⟩,
    ⟨Rect.unit ![256, 0] ![256, 256] inb_S1024x512_S256x256_256_0,
      k0_pay15 (k0_pay12 (strip0 A Wg Wv ![0, 0, 264, 0] inb_S2x2x1056x256_S1x1x272x256_0_0_264_0) (taps Cg ![0, 0] inb_S3x512_S3x256_0_0))
        (k0_pay13 (taps Cg ![0, 0] inb_S3x512_S3x256_0_0))
        (k0_pay14 (strip0 A Wg Wv ![0, 0, 264, 0] inb_S2x2x1056x256_S1x1x272x256_0_0_264_0))
        (strip0 A Wg Wv ![1, 0, 264, 0] inb_S2x2x1056x256_S1x1x272x256_1_0_264_0) (taps Cv ![0, 0] inb_S3x512_S3x256_0_0)⟩,
    ⟨Rect.unit ![0, 0] ![256, 256] inb_S1024x512_S256x256_0_0,
      k0_pay10 (k0_pay8 (strip0 A Wg Wv ![0, 0, 8, 0] inb_S2x2x1056x256_S1x1x272x256_0_0_8_0) (taps Cg ![0, 0] inb_S3x512_S3x256_0_0))
        (k0_pay9 (strip0 A Wg Wv ![0, 0, 8, 0] inb_S2x2x1056x256_S1x1x272x256_0_0_8_0) (taps Cg ![0, 0] inb_S3x512_S3x256_0_0))
        (strip0 A Wg Wv ![1, 0, 8, 0] inb_S2x2x1056x256_S1x1x272x256_1_0_8_0) (taps Cv ![0, 0] inb_S3x512_S3x256_0_0)⟩]

/-- The eight tiles make the block. -/
theorem tiles_apply (j : S1024x512.Idx) : View.canon (tiles A Wg Wv Cg Cv) j = block A Wg Wv Cg Cv j := by
  canon_tiles x h using View.cover_of_tiledBy (tiles A Wg Wv Cg Cv) ![256, 256] (by sl_kernel_rfl) j
  · rw [tile7]
    exact tile_eq A Wg Wv Cg Cv _ _ _ _ x j 768 256 (by omega) (by omega)
      (fun a l R c hR hc => (strip1_apply A Wg Wv 0 776 _ a l).trans (by rw [spread_gate]; congr 1 <;> apply Fin.ext <;> simp <;> omega))
      (fun a l R c hR hc => (strip1_apply A Wg Wv 1 776 _ a l).trans (by rw [spread_value]; congr 1 <;> apply Fin.ext <;> simp <;> omega))
      (fun q l c hc => taps_apply Cg 256 _ q l c hc) (fun q l c hc => taps_apply Cv 256 _ q l c hc)
  · rw [tile6]
    exact tile_eq A Wg Wv Cg Cv _ _ _ _ x j 512 256 (by omega) (by omega)
      (fun a l R c hR hc => (strip1_apply A Wg Wv 0 520 _ a l).trans (by rw [spread_gate]; congr 1 <;> apply Fin.ext <;> simp <;> omega))
      (fun a l R c hR hc => (strip1_apply A Wg Wv 1 520 _ a l).trans (by rw [spread_value]; congr 1 <;> apply Fin.ext <;> simp <;> omega))
      (fun q l c hc => taps_apply Cg 256 _ q l c hc) (fun q l c hc => taps_apply Cv 256 _ q l c hc)
  · rw [tile5]
    exact tile_eq A Wg Wv Cg Cv _ _ _ _ x j 256 256 (by omega) (by omega)
      (fun a l R c hR hc => (strip1_apply A Wg Wv 0 264 _ a l).trans (by rw [spread_gate]; congr 1 <;> apply Fin.ext <;> simp <;> omega))
      (fun a l R c hR hc => (strip1_apply A Wg Wv 1 264 _ a l).trans (by rw [spread_value]; congr 1 <;> apply Fin.ext <;> simp <;> omega))
      (fun q l c hc => taps_apply Cg 256 _ q l c hc) (fun q l c hc => taps_apply Cv 256 _ q l c hc)
  · rw [tile4]
    exact tile_eq A Wg Wv Cg Cv _ _ _ _ x j 0 256 (by omega) (by omega)
      (fun a l R c hR hc => (strip1_apply A Wg Wv 0 8 _ a l).trans (by rw [spread_gate]; congr 1 <;> apply Fin.ext <;> simp <;> omega))
      (fun a l R c hR hc => (strip1_apply A Wg Wv 1 8 _ a l).trans (by rw [spread_value]; congr 1 <;> apply Fin.ext <;> simp <;> omega))
      (fun q l c hc => taps_apply Cg 256 _ q l c hc) (fun q l c hc => taps_apply Cv 256 _ q l c hc)
  · rw [tile3]
    exact tile_eq A Wg Wv Cg Cv _ _ _ _ x j 768 0 (by omega) (by omega)
      (fun a l R c hR hc => (strip0_apply A Wg Wv 0 776 _ a l).trans (by rw [spread_gate]; congr 1 <;> apply Fin.ext <;> simp <;> omega))
      (fun a l R c hR hc => (strip0_apply A Wg Wv 1 776 _ a l).trans (by rw [spread_value]; congr 1 <;> apply Fin.ext <;> simp <;> omega))
      (fun q l c hc => taps_apply Cg 0 _ q l c hc) (fun q l c hc => taps_apply Cv 0 _ q l c hc)
  · rw [tile2]
    exact tile_eq A Wg Wv Cg Cv _ _ _ _ x j 512 0 (by omega) (by omega)
      (fun a l R c hR hc => (strip0_apply A Wg Wv 0 520 _ a l).trans (by rw [spread_gate]; congr 1 <;> apply Fin.ext <;> simp <;> omega))
      (fun a l R c hR hc => (strip0_apply A Wg Wv 1 520 _ a l).trans (by rw [spread_value]; congr 1 <;> apply Fin.ext <;> simp <;> omega))
      (fun q l c hc => taps_apply Cg 0 _ q l c hc) (fun q l c hc => taps_apply Cv 0 _ q l c hc)
  · rw [tile1]
    exact tile_eq A Wg Wv Cg Cv _ _ _ _ x j 256 0 (by omega) (by omega)
      (fun a l R c hR hc => (strip0_apply A Wg Wv 0 264 _ a l).trans (by rw [spread_gate]; congr 1 <;> apply Fin.ext <;> simp <;> omega))
      (fun a l R c hR hc => (strip0_apply A Wg Wv 1 264 _ a l).trans (by rw [spread_value]; congr 1 <;> apply Fin.ext <;> simp <;> omega))
      (fun q l c hc => taps_apply Cg 0 _ q l c hc) (fun q l c hc => taps_apply Cv 0 _ q l c hc)
  · rw [tile0]
    exact tile_eq A Wg Wv Cg Cv _ _ _ _ x j 0 0 (by omega) (by omega)
      (fun a l R c hR hc => (strip0_apply A Wg Wv 0 8 _ a l).trans (by rw [spread_gate]; congr 1 <;> apply Fin.ext <;> simp <;> omega))
      (fun a l R c hR hc => (strip0_apply A Wg Wv 1 8 _ a l).trans (by rw [spread_value]; congr 1 <;> apply Fin.ext <;> simp <;> omega))
      (fun q l c hc => taps_apply Cg 0 _ q l c hc) (fun q l c hc => taps_apply Cv 0 _ q l c hc)

end Cert.UpGate

end
-- ==== Proof.UpRows.lean ====
module

public import proofs.«01_k».proof.Proof.UpBlock

/-!
The rows the fused up-projection keeps: at the first of a row block's points it lays the block's 1024 rows down with the
sixteen rows before and the sixteen after, zeros at the ends of a sequence, and keeps them for the row block's other points.
-/

@[expose] public section

noncomputable section

namespace Cert.UpGate

open Idealize.ShloMosaic Idealize.ShloMosaic.TcCoe Idealize.SL.Sem
open Cert.KernelIdeal Cert.KernelIdeal.Gen Cert.KernelIdeal.Value

/-- The rows before the block are zeros at the start of a sequence. -/
theorem pay2_apply (i : grid0.Coords) (v : Vec Ideal S16x4096 .bf16) (j : S16x4096.Idx) :
    k0_pay2 (F := Ideal) i v j = if (i 0).val % 8 = 0 then 0 else v j := by
  pointwise [k0_pay2]
  have hq : (i 0).val < 16 := (i 0).isLt
  generalize (i 0).val = q at hq
  generalize v j = x
  interval_cases q <;> rfl

/-- The rows after the block are zeros at the end of a sequence. -/
theorem pay4_apply (i : grid0.Coords) (v : Vec Ideal S16x4096 .bf16) (j : S16x4096.Idx) :
    k0_pay4 (F := Ideal) i v j = if (i 0).val % 8 = 7 then 0 else v j := by
  pointwise [k0_pay4]
  have hq : (i 0).val < 16 := (i 0).isLt
  generalize (i 0).val = q at hq
  generalize v j = x
  interval_cases q <;> rfl

/-- The row windows over the grid: a row block's neighbours are clamped at the array's ends. -/
theorem idx : ∀ t : Fin cfg0.N, win0_0.index t 0 = t.val / 22 * 64 - 1 ∧ win0_0.index t 1 = 0
    ∧ win0_1.index t 0 = t.val / 22 ∧ win0_1.index t 1 = 0
    ∧ win0_2.index t 0 = min ((t.val / 22 + 1) * 64) 1023 ∧ win0_2.index t 1 = 0
    ∧ (grid0.coords t 0).val = t.val / 22 :=
  (by decide +kernel : ∀ t : Fin grid0.N, _)

/-- The weights' windows over the grid: the value's column block lies 22 blocks after the gate's. -/
theorem idxW : ∀ t : Fin cfg0.N, win0_3.index t 0 = 0 ∧ win0_3.index t 1 = t.val % 22
    ∧ win0_4.index t 0 = 0 ∧ win0_4.index t 1 = t.val % 22 + 22
    ∧ win0_5.index t 0 = 0 ∧ win0_5.index t 1 = t.val % 22
    ∧ win0_6.index t 0 = 0 ∧ win0_6.index t 1 = t.val % 22 + 22
    ∧ win0_7.index t 0 = t.val / 22 ∧ win0_7.index t 1 = t.val % 22 :=
  (by decide +kernel : ∀ t : Fin grid0.N, _)

variable (m : (ℓ : Loc nD τ sig) → Buf (Elt Ideal) ℓ)

/-- The kept rows read back are the kept rows. -/
theorem read_back (x : Vec Ideal S1056x4096 .bf16) : View.read (Elt Ideal) (View.whole cc0_scratch0)
    ((Memref.isWhole_whole cc0_scratch0).unread x) = x :=
  (Memref.isWhole_whole cc0_scratch0).read_unread x

/-- The three parts of the kept rows as they are laid down. -/
abbrev laid (i : grid0.Coords) (a : Vec Ideal S16x4096 .bf16) (x : Vec Ideal S1024x4096 .bf16) (b : Vec Ideal S16x4096 .bf16) :
    List (View.Piece (Elt Ideal) S1056x4096 .bf16) :=
  [⟨Rect.unit ![1040, 0] ![16, 4096] inb_S1056x4096_S16x4096_1040_0, k0_pay4 i b⟩,
    ⟨Rect.unit ![16, 0] ![1024, 4096] inb_S1056x4096_S1024x4096_16_0, k0_pay3 x⟩,
    ⟨Rect.unit ![0, 0] ![16, 4096] inb_S1056x4096_S16x4096_0_0, k0_pay2 i a⟩]

/-- At the first point of a row block the three parts are laid down. -/
theorem fill (c : Dev nD) (t : Fin cfg0.N) (h : t.val % 22 = 0) :
    (outsAt0 m c t.val t.isLt).2 = View.canon (laid (grid0.coords t) (iblk m c 0 t) (iblk m c 1 t) (iblk m c 2 t)) := by
  rw [outsAt0_A m c t h]
  frame_out

/-- At the other points the rows are kept. -/
theorem keep (c : Dev nD) (t : Fin cfg0.N) (h : ¬ t.val % 22 = 0) :
    (outsAt0 m c t.val t.isLt).2 = (outsAt0 m c (t.val - 1) (Nat.lt_of_le_of_lt (Nat.sub_le _ _) t.isLt)).2 := by
  rw [outsAt0_B m c t h]
  dsimp only
  unfold sout0_B_0
  rfl

/-- A load of all the rows laid down reads what is laid down. -/
theorem load_all (L : List (View.Piece (Elt Ideal) S1056x4096 .bf16))
    (inb : ∀ a, ![0, 0] a + S1056x4096.size a ≤ S1056x4096.size a) :
    (View.whole cc0_scratch0).readCov L (Rect.unit (s := S1056x4096) ![0, 0] S1056x4096.size inb).toLoadRect
      = View.canon L := by
  rw [View.readCov_eq_canon']
  refine funext fun j => congrArg _ (funext fun a => Fin.ext ((Rect.idx_unit_val _ _ _ _ a).trans ?_))
  match a with
  | ⟨0, _⟩ => exact Nat.zero_add _
  | ⟨1, _⟩ => exact Nat.zero_add _

/-- The result block is always the block computed from the rows the point leaves. -/
theorem out_apply (c : Dev nD) (t : Fin cfg0.N) (j : S1024x512.Idx) :
    (outsAt0 m c t.val t.isLt).1 j = block (outsAt0 m c t.val t.isLt).2 (iblk m c 3 t) (iblk m c 4 t) (iblk m c 5 t)
      (iblk m c 6 t) j := by
  by_cases h : t.val % 22 = 0
  · rw [fill m c t h, outsAt0_A m c t h]
    frame_out
    rw [load_all]
    exact tiles_apply _ _ _ _ _ j
  · rw [keep m c t h, outsAt0_B m c t h]
    frame_out
    rw [read_back]
    exact tiles_apply _ _ _ _ _ j

/-- Row `r` of the sixteen-row-padded row block `b` of `X`, zeros beyond the ends of a sequence. -/
def padded (X : S16384x4096.Idx → EReal) (b : Fin 16) (r : Fin 1056) (k : Fin 4096) : EReal :=
  if h : (r.val < 16 ∧ b.val % 8 = 0) ∨ (1040 ≤ r.val ∧ b.val % 8 = 7) then 0
  else X (ix2 ⟨b.val * 1024 + r.val - 16, by omega⟩ k)

/-- What is laid down at a point is the padded row block. -/
theorem laid_apply (c : Dev nD) (t : Fin cfg0.N) (b : Fin 16) (hb : b.val = t.val / 22) (j : S1056x4096.Idx) :
    View.canon (laid (grid0.coords t) (iblk m c 0 t) (iblk m c 1 t) (iblk m c 2 t)) j
      = padded (m ((c : Thread nD τ).loc main_arg0)) b (j 0) (j 1) := by
  obtain ⟨e0, e1, e2, e3, e4, e5, e6⟩ := idx t
  canon_tiles x h using View.cover_of_tiledBy (laid (grid0.coords t) (iblk m c 0 t) (iblk m c 1 t) (iblk m c 2 t))
    ![16, 4096] (by sl_kernel_rfl) j
  · have hx : (x 0).val < 16 := (x 0).isLt
    rw [pay4_apply, e6, ← hb]
    unfold padded
    by_cases hz : b.val % 8 = 7
    · rw [if_pos hz, dif_pos (Or.inr ⟨by omega, hz⟩)]
    · rw [if_neg hz, dif_neg (by omega)]
      blk_simp [iblk]
      refine congrArg (m ((c : Thread nD τ).loc main_arg0)) ?_
      blk_ext [e4, e5]
  · have hx : (x 0).val < 1024 := (x 0).isLt
    unfold padded
    rw [dif_neg (by omega)]
    pointwise [k0_pay3]
    blk_simp [iblk]
    refine congrArg (m ((c : Thread nD τ).loc main_arg0)) ?_
    blk_ext [e2, e3]
  · have hx : (x 0).val < 16 := (x 0).isLt
    rw [pay2_apply, e6, ← hb]
    unfold padded
    by_cases hz : b.val % 8 = 0
    · rw [if_pos hz, dif_pos (Or.inl ⟨by omega, hz⟩)]
    · rw [if_neg hz, dif_neg (by omega)]
      blk_simp [iblk]
      refine congrArg (m ((c : Thread nD τ).loc main_arg0)) ?_
      blk_ext [e0, e1]

/-- After every point the kept rows are the padded rows of the point's row block. -/
theorem rows_kept (c : Dev nD) : ∀ (n : Nat) (hn : n < cfg0.N) (b : Fin 16) (_ : b.val = n / 22) (r : Fin 1056)
    (k : Fin 4096), (outsAt0 m c n hn).2 (ix2 r k) = padded (m ((c : Thread nD τ).loc main_arg0)) b r k
  | 0, hn, b, hb, r, k => by
    rw [fill m c ⟨0, hn⟩ rfl]
    exact laid_apply m c ⟨0, hn⟩ b hb (ix2 r k)
  | n + 1, hn, b, hb, r, k => by
    by_cases h : (n + 1) % 22 = 0
    · rw [fill m c ⟨n + 1, hn⟩ h]
      exact laid_apply m c ⟨n + 1, hn⟩ b hb (ix2 r k)
    · rw [keep m c ⟨n + 1, hn⟩ h]
      exact rows_kept c n (Nat.lt_of_succ_lt hn) b (by omega) r k

end Cert.UpGate

end
-- ==== Proof.UpValue.lean ====
module

public import proofs.«01_k».proof.Proof.UpRows

/-!
The array of the fused up-projection after the run: the gated product of the convolved products, entry by entry.
-/

@[expose] public section

noncomputable section

namespace Cert.UpGate

open Idealize.ShloMosaic Idealize.ShloMosaic.TcCoe Idealize.SL.Sem
open Cert.KernelIdeal Cert.KernelIdeal.Gen Cert.KernelIdeal.Value

/-- The width-3 convolution along a sequence of the up-projection: zeros stand beyond the sequence's two ends. -/
def convolved (X : S16384x4096.Idx → EReal) (W : S4096x22528.Idx → EReal) (C : S3x22528.Idx → EReal) (R : Fin 16384)
    (c : Fin 22528) : EReal :=
  C (ix2 0 c) * (if R.val % 8192 = 0 then 0 else up X W ⟨R.val - 1, by omega⟩ c) + C (ix2 1 c) * up X W R c
    + C (ix2 2 c) * (if h : R.val % 8192 = 8191 then 0 else up X W ⟨R.val + 1, by omega⟩ c)

/-- The result: the gate's column with the value's, 11264 columns after it. -/
def gated (X : S16384x4096.Idx → EReal) (W : S4096x22528.Idx → EReal) (C : S3x22528.Idx → EReal)
    (i : S16384x11264.Idx) : EReal :=
  gate (convolved X W C (i 0) ⟨(i 1).val, by have h : (i 1).val < 11264 := (i 1).isLt; omega⟩)
    (convolved X W C (i 0) ⟨11264 + (i 1).val, by have h : (i 1).val < 11264 := (i 1).isLt; omega⟩)

/-- A product over a row of zeros is zero. -/
theorem up_zero (X : S16384x4096.Idx → EReal) (K : S1056x4096.Idx → EReal) (w : S4096x512.Idx → EReal) (b : Fin 16)
    (r : Fin 1056) (c : Fin 512) (hK : ∀ k, K (ix2 r k) = padded X b r k)
    (h : (r.val < 16 ∧ b.val % 8 = 0) ∨ (1040 ≤ r.val ∧ b.val % 8 = 7)) : up K w r c = 0 := by
  refine Finset.sum_eq_zero fun k _ => ?_
  rw [hK k, padded, dif_pos h, zero_mul]

/-- A product over another kept row is the product over the array's row. -/
theorem up_row (X : S16384x4096.Idx → EReal) (W : S4096x22528.Idx → EReal) (K : S1056x4096.Idx → EReal)
    (w : S4096x512.Idx → EReal) (b : Fin 16) (r : Fin 1056) (c : Fin 512) (R : Fin 16384) (C : Fin 22528)
    (hK : ∀ k, K (ix2 r k) = padded X b r k) (hw : ∀ k, w (ix2 k c) = W (ix2 k C))
    (h : ¬ ((r.val < 16 ∧ b.val % 8 = 0) ∨ (1040 ≤ r.val ∧ b.val % 8 = 7))) (hR : R.val = b.val * 1024 + r.val - 16) :
    up K w r c = up X W R C := by
  refine Finset.sum_congr rfl fun k _ => ?_
  rw [hK k, padded, dif_neg h, hw k]
  congr 3
  exact Fin.ext hR.symm

/-- The block's convolution is the array's. -/
theorem conv3_eq (X : S16384x4096.Idx → EReal) (W : S4096x22528.Idx → EReal) (T : S3x22528.Idx → EReal)
    (K : S1056x4096.Idx → EReal) (w : S4096x512.Idx → EReal) (s : S3x512.Idx → EReal) (b : Fin 16) (r : Fin 1024)
    (c : Fin 512) (R : Fin 16384) (C : Fin 22528) (hK : ∀ r k, K (ix2 r k) = padded X b r k)
    (hw : ∀ k, w (ix2 k c) = W (ix2 k C)) (hs : ∀ q, s (ix2 q c) = T (ix2 q C)) (hR : R.val = b.val * 1024 + r.val) :
    conv3 K w s r c = convolved X W T R C := by
  unfold conv3 convolved
  rw [hs 0, hs 1, hs 2]
  congr 1
  · congr 1
    · congr 1
      split
      · exact up_zero X K w b _ c (hK _) (Or.inl ⟨by show r.val + 15 < 16; omega, by omega⟩)
      · exact up_row X W K w b _ c _ C (hK _) hw (by show ¬ ((r.val + 15 < 16 ∧ _) ∨ (1040 ≤ r.val + 15 ∧ _)); omega)
          (by show R.val - 1 = b.val * 1024 + (r.val + 15) - 16; omega)
    · congr 1
      exact up_row X W K w b _ c _ C (hK _) hw (by show ¬ ((r.val + 16 < 16 ∧ _) ∨ (1040 ≤ r.val + 16 ∧ _)); omega)
        (by show R.val = b.val * 1024 + (r.val + 16) - 16; omega)
  · congr 1
    split
    · exact up_zero X K w b _ c (hK _) (Or.inr ⟨by show 1040 ≤ r.val + 17; omega, by omega⟩)
    · exact up_row X W K w b _ c _ C (hK _) hw (by show ¬ ((r.val + 17 < 16 ∧ _) ∨ (1040 ≤ r.val + 17 ∧ _)); omega)
        (by show R.val + 1 = b.val * 1024 + (r.val + 17) - 16; omega)

variable (m : (ℓ : Loc nD τ sig) → Buf (Elt Ideal) ℓ)

/-- The weights' blocks are the arguments' columns. -/
theorem cols (c : Dev nD) (t : Fin cfg0.N) (l : Fin 512) (C C' : Fin 22528) (hC : C.val = t.val % 22 * 512 + l.val)
    (hC' : C'.val = 11264 + C.val) :
    (∀ k, iblk m c 3 t (ix2 k l) = m ((c : Thread nD τ).loc main_arg1) (ix2 k C))
    ∧ (∀ k, iblk m c 4 t (ix2 k l) = m ((c : Thread nD τ).loc main_arg1) (ix2 k C'))
    ∧ (∀ q, iblk m c 5 t (ix2 q l) = m ((c : Thread nD τ).loc main_arg2) (ix2 q C))
    ∧ (∀ q, iblk m c 6 t (ix2 q l) = m ((c : Thread nD τ).loc main_arg2) (ix2 q C')) := by
  obtain ⟨e0, e1, e2, e3, e4, e5, e6, e7, -, -⟩ := idxW t
  refine ⟨fun k => ?_, fun k => ?_, fun k => ?_, fun k => ?_⟩
  · blk_simp [iblk]
    refine congrArg (m ((c : Thread nD τ).loc main_arg1)) ?_
    blk_ext [e0, e1, hC]
  · blk_simp [iblk]
    refine congrArg (m ((c : Thread nD τ).loc main_arg1)) ?_
    blk_ext [e2, e3, hC, hC']
  · blk_simp [iblk]
    refine congrArg (m ((c : Thread nD τ).loc main_arg2)) ?_
    blk_ext [e4, e5, hC]
  · blk_simp [iblk]
    refine congrArg (m ((c : Thread nD τ).loc main_arg2)) ?_
    blk_ext [e6, e7, hC, hC']

/-- The result array after the run. -/
theorem final (c : Dev nD) : (dats m 0 c).arrAt 7 cfg0.N
    = gated (m ((c : Thread nD τ).loc main_arg0)) (m ((c : Thread nD τ).loc main_arg1))
        (m ((c : Thread nD τ).loc main_arg2)) := by
  refine (dats m 0 c).arrAt_eq_of_covers 7 _ (by decide +kernel) fun t hf y => ?_
  obtain ⟨-, -, -, -, -, -, -, -, e8, e9⟩ := idxW t
  have hN : t.val < 352 := lt_of_lt_of_eq t.isLt N_0
  blk_simp
  rw [after0_7, out_apply m c t]
  have y0 : (y 0).val < 1024 := (y 0).isLt
  have y1 : (y 1).val < 512 := (y 1).isLt
  have r0 : ((win0_7.blk t).view.emb y 0).val = t.val / 22 * 1024 + (y 0).val := by blk_simp; rw [e8]
  have r1 : ((win0_7.blk t).view.emb y 1).val = t.val % 22 * 512 + (y 1).val := by blk_simp; rw [e9]
  have hc : ((win0_7.blk t).view.emb y 1).val < 11264 := by rw [r1]; omega
  obtain ⟨c0, c1, c2, c3⟩ := cols m c t (y 1) ⟨_, lt_trans hc (by omega)⟩
    ⟨11264 + ((win0_7.blk t).view.emb y 1).val, by omega⟩ r1 rfl
  have hb := rows_kept m c t.val t.isLt ⟨t.val / 22, by omega⟩ rfl
  unfold block gated
  congr 1
  · exact conv3_eq _ _ _ _ _ _ ⟨t.val / 22, by omega⟩ _ _ _ _ hb c0 c2 r0
  · exact conv3_eq _ _ _ _ _ _ ⟨t.val / 22, by omega⟩ _ _ _ _ hb c1 c3 r0

end Cert.UpGate

end
-- ==== Proof.UpSilu.lean ====
module

public import proofs.«01_k».proof.Proof.UpValue

/-!
The gate as the kernel writes it (half the input, plus that half times its hyperbolic tangent) is the input times its
logistic, at a real input; and every convolved product of finite arguments is real.
-/

@[expose] public section

noncomputable section

namespace Cert.UpGate

open Idealize.ShloMosaic Idealize.ShloMosaic.TcCoe
open Cert.KernelIdeal Cert.KernelIdeal.Gen

/-- The word the kernel writes for one half is one half. -/
theorem half_eq : half = ((1 / 2 : ℝ) : EReal) := by
  simp [half, Ideal.ofBits, Ideal.ieee, -EReal.coe_mul]
  norm_num

/-- Over the reals: `g/2 + g/2 · tanh (g/2) = g / (1 + e⁻ᵍ)`. -/
theorem silu_real (g : ℝ) : 1 / 2 * g + 1 / 2 * g * Real.tanh (1 / 2 * g) = g * (1 + Real.exp (-g))⁻¹ := by
  have hp := Real.exp_pos (1 / 2 * g)
  have hn := Real.exp_pos (-(1 / 2 * g))
  have e1 : Real.exp (-g) = Real.exp (-(1 / 2 * g)) * Real.exp (-(1 / 2 * g)) := by
    rw [← Real.exp_add]; congr 1; ring
  have e2 : Real.exp (1 / 2 * g) * Real.exp (-(1 / 2 * g)) = 1 := by
    rw [← Real.exp_add]; simp
  rw [Real.tanh_eq_sinh_div_cosh, Real.sinh_eq, Real.cosh_eq, e1]
  generalize Real.exp (1 / 2 * g) = p at *
  generalize Real.exp (-(1 / 2 * g)) = n at *
  have : p = n⁻¹ := eq_inv_of_mul_eq_one_left e2
  subst this
  field_simp
  ring

/-- The kernel's gate at a real input. -/
theorem gate_real (g : ℝ) (v : EReal) : gate g v = (g * Ideal.logistic g) * v := by
  unfold gate
  rw [half_eq, ← EReal.coe_mul, Ideal.tanh_coe, ← EReal.coe_mul, ← EReal.coe_add, silu_real, Ideal.logistic_coe,
    EReal.coe_mul]

/-- An extended real that is a real. -/
def IsReal (x : EReal) : Prop := ∃ r : ℝ, x = r

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.zero : IsReal 0 := ⟨0, rfl⟩

theorem IsReal.sum {ι : Type} (s : Finset ι) (f : ι → EReal) (h : ∀ i, IsReal (f i)) : IsReal (∑ i ∈ s, f i) := by
  classical
  induction s using Finset.induction_on with
  | empty => exact ⟨0, rfl⟩
  | insert a s ha ih => rw [Finset.sum_insert ha]; exact (h a).add ih

/-- A number whose absolute value is below infinity is real. -/
theorem isReal_of_abs_lt (x : EReal) (h : max x (-x) < ⊤) : IsReal x := by
  induction x using EReal.rec with
  | bot => simp at h
  | top => simp at h
  | coe r => exact ⟨r, rfl⟩

/-- Convolved products of real arguments are real. -/
theorem convolved_real (X : S16384x4096.Idx → EReal) (W : S4096x22528.Idx → EReal) (C : S3x22528.Idx → EReal)
    (hX : ∀ i, IsReal (X i)) (hW : ∀ i, IsReal (W i)) (hC : ∀ i, IsReal (C i)) (R : Fin 16384) (c : Fin 22528) :
    IsReal (convolved X W C R c) := by
  have hu : ∀ r, IsReal (up X W r c) := fun r => IsReal.sum _ _ fun k => (hX _).mul (hW _)
  unfold convolved
  refine (((hC _).mul ?_).add ((hC _).mul (hu _))).add ((hC _).mul ?_)
  · split
    exacts [IsReal.zero, hu _]
  · split
    exacts [IsReal.zero, hu _]

end Cert.UpGate

end
-- ==== Proof.UpRef.lean ====
module

public import proofs.«01_k».proof.Proof.UpSilu
public import proofs.«01_k».proof.Proof.Gen.ReferenceIdeal.Read

/-!
The reference of the fused up-projection, entry by entry: the same convolved products, gated by the input times its
logistic.
-/

@[expose] public section

noncomputable section

namespace Cert.UpGate

open Idealize.ShloMosaic Idealize.ShloMosaic.TcCoe
open Cert.ReferenceIdeal Cert.ReferenceIdeal.Gen Cert.ReferenceIdeal.Read

variable (X : FVec Ideal S16384x4096 .bf16) (W : FVec Ideal S4096x22528 .bf16) (C : FVec Ideal S3x22528 .f32)

/-- The up-projection at position `s` of sequence `b`. -/
theorem up_ref (i : S2x8192x22528.Idx) (R : Fin 16384) (hR : R.val = (i 0).val * 8192 + (i 1).val) :
    val_main_v3 (F := Ideal) X W i = up X W R (i 2) := by
  rw [val_main_v3_apply]
  refine Finset.sum_congr (M := EReal) rfl fun k _ => ?_
  rw [val_main_v1_apply, val_main_v2_apply, val_main_v0_apply]
  have i1 : (i 1).val < 8192 := (i 1).isLt
  congr 1
  · refine congrArg X (funext fun a => Fin.ext ?_)
    match a with
    | ⟨0, _⟩ => show (((i 0).val * 8192 + (i 1).val) * 4096 + k.val) / 4096 = R.val; omega
    | ⟨1, _⟩ => show (((i 0).val * 8192 + (i 1).val) * 4096 + k.val) % 4096 = k.val; omega
  · refine congrArg W (funext fun a => Fin.ext ?_)
    match a with
    | ⟨0, _⟩ => rfl
    | ⟨1, _⟩ => rfl

/-- The products shifted one position later: zero at the start of a sequence. -/
theorem before_ref (i : S2x8192x22528.Idx) (R : Fin 16384) (hR : R.val = (i 0).val * 8192 + (i 1).val) :
    val_main_v7 (F := Ideal) X W i = if R.val % 8192 = 0 then 0 else up X W ⟨R.val - 1, by omega⟩ (i 2) := by
  have i1 : (i 1).val < 8192 := (i 1).isLt
  pointwise [val_main_v7, val_main_v6, val_main_v5, val_main_cst]
  have e : (i 1).val < 1 ↔ R.val % 8192 = 0 := by omega
  by_cases h : (i 1).val < 1
  · rw [dif_pos h, if_pos (e.mp h)]
  · rw [dif_neg h, if_neg (mt e.mpr h)]
    exact up_ref X W _ _ (by show R.val - 1 = (i 0).val * 8192 + ((i 1).val - 1); omega)

/-- The products shifted one position earlier: zero at the end of a sequence. -/
theorem after_ref (i : S2x8192x22528.Idx) (R : Fin 16384) (hR : R.val = (i 0).val * 8192 + (i 1).val) :
    val_main_v9 (F := Ideal) X W i = if h : R.val % 8192 = 8191 then 0 else up X W ⟨R.val + 1, by omega⟩ (i 2) := by
  have i1 : (i 1).val < 8192 := (i 1).isLt
  pointwise [val_main_v9, val_main_v8, val_main_v5, val_main_cst]
  have e : ¬ (i 1).val < 8191 ↔ R.val % 8192 = 8191 := by omega
  by_cases h : (i 1).val < 8191
  · rw [dif_pos h, dif_neg (mt e.mpr (not_not.mpr h))]
    exact up_ref X W _ _ (by show R.val + 1 = (i 0).val * 8192 + (1 + (i 1).val); omega)
  · rw [dif_neg h, dif_pos (e.mp h)]

/-- The three taps spread over the positions. -/
theorem taps_ref (i : S2x8192x22528.Idx) : val_main_v13 (F := Ideal) C i = C (ix2 0 (i 2))
    ∧ val_main_v18 (F := Ideal) C i = C (ix2 1 (i 2)) ∧ val_main_v24 (F := Ideal) C i = C (ix2 2 (i 2)) := by
  refine ⟨?_, ?_, ?_⟩
  · pointwise [val_main_v13, val_main_v12, val_main_v11, val_main_v10]
  · pointwise [val_main_v18, val_main_v17, val_main_v16, val_main_v15]
  · pointwise [val_main_v24, val_main_v23, val_main_v22, val_main_v21]

/-- The reference's convolution. -/
theorem conv_ref (i : S2x8192x22528.Idx) (R : Fin 16384) (hR : R.val = (i 0).val * 8192 + (i 1).val) :
    val_main_v26 (F := Ideal) X W C i = convolved X W C R (i 2) := by
  obtain ⟨t0, t1, t2⟩ := taps_ref C i
  rw [val_main_v26_apply, val_main_v20_apply, val_main_v14_apply, val_main_v19_apply, val_main_v25_apply, t0, t1, t2,
    before_ref X W i R hR, after_ref X W i R hR, up_ref X W i R hR]
  rfl

/-- The reference's gate and value, put together at real arguments. -/
theorem gate_ref (hX : ∀ i, IsReal (X i)) (hW : ∀ i, IsReal (W i)) (hC : ∀ i, IsReal (C i)) (R : Fin 16384)
    (c : Fin 11264) (b : Fin 2) (s : Fin 8192) (hR : R.val = b.val * 8192 + s.val) :
    val_main_v26 (F := Ideal) X W C (ix3 b s ⟨c.val, by omega⟩)
        * Ideal.div 1 (1 + Ideal.exp (-val_main_v26 (F := Ideal) X W C (ix3 b s ⟨c.val, by omega⟩)))
        * val_main_v26 (F := Ideal) X W C (ix3 b s ⟨11264 + c.val, by omega⟩)
      = gate (convolved X W C R ⟨c.val, by omega⟩) (convolved X W C R ⟨11264 + c.val, by omega⟩) := by
  rw [conv_ref X W C (ix3 b s ⟨c.val, by omega⟩) R hR, conv_ref X W C (ix3 b s ⟨11264 + c.val, by omega⟩) R hR]
  have hg := convolved_real X W C hX hW hC R ⟨c.val, by omega⟩
  show convolved X W C R ⟨c.val, by omega⟩ * Ideal.div 1 (1 + Ideal.exp (-convolved X W C R ⟨c.val, by omega⟩))
    * convolved X W C R ⟨11264 + c.val, by omega⟩ = _
  generalize convolved X W C R ⟨c.val, by omega⟩ = g at hg
  obtain ⟨r, rfl⟩ := hg
  exact (gate_real r _).symm

/-- The reference's result, at real arguments. -/
theorem ref_eq (hX : ∀ i, IsReal (X i)) (hW : ∀ i, IsReal (W i)) (hC : ∀ i, IsReal (C i)) :
    val_main_v32 (F := Ideal) X W C = gated X W C := by
  funext i
  pointwise [val_main_v32, val_main_v31, val_main_v30, val_main_v29, val_main_v28, val_main_v27, val_main_call0_v5,
    val_main_call0_v4, val_main_call0_v3, val_main_call0_v2, val_main_call0_v1, val_main_call0_v0, val_main_call0_cst,
    val_main_call0_cst_0]
  have h0 : (i 0).val < 16384 := (i 0).isLt
  have h1 : (i 1).val < 11264 := (i 1).isLt
  exact gate_ref X W C hX hW hC (i 0) ⟨(i 1).val, h1⟩ ⟨(i 0).val / 8192, by omega⟩ ⟨(i 0).val % 8192, by omega⟩
    (by show (i 0).val = (i 0).val / 8192 * 8192 + (i 0).val % 8192; omega)

end Cert.UpGate

end
-- ==== Proof.UpPre.lean ====
module

public import proofs.«01_k».proof.Proof.UpSilu
public import proofs.«01_k».proof.Proof.Gen.Pre_finite

/-! What the precondition says of the three arguments: every element is a real number. -/

@[expose] public section

noncomputable section

namespace Cert.UpGate

open Idealize.ShloMosaic Idealize.ShloMosaic.TcCoe

/-- The word of infinity is infinity. -/
theorem inf_eq : Ideal.ofBits .f32 0x7F800000#32 = ⊤ := by
  simp [Ideal.ofBits, Ideal.ieee]

/-- One element's comparison. -/
theorem isReal_of_cmp (x : EReal) (h : BitVec.ofBool (decide (max x (-x) < Ideal.ofBits .f32 0x7F800000#32)) = 1#1) :
    IsReal x := by
  rw [inf_eq] at h
  refine isReal_of_abs_lt x ?_
  by_contra hx
  rw [decide_eq_false hx] at h
  exact absurd h (by decide)

variable (X : FVec Ideal Cert.Pre_finite.S16384x4096 .bf16) (W : FVec Ideal Cert.Pre_finite.S4096x22528 .bf16)
  (C : FVec Ideal Cert.Pre_finite.S3x22528 .f32) [Cert.Pre_finite.Facts]

/-- The first argument's elements are real. -/
theorem pre_rows (h : (Cert.Pre_finite.fn (F := Ideal) X W C).1 = fun _ => 1#1) (i) : IsReal (X i) := by
  have h := congrFun h i
  pointwise [Cert.Pre_finite.fn] at h
  exact isReal_of_cmp (X i) h

/-- The second argument's elements are real. -/
theorem pre_weights (h : (Cert.Pre_finite.fn (F := Ideal) X W C).2.1 = fun _ => 1#1) (i) : IsReal (W i) := by
  have h := congrFun h i
  pointwise [Cert.Pre_finite.fn] at h
  exact isReal_of_cmp (W i) h

/-- The third argument's elements are real. -/
theorem pre_taps (h : (Cert.Pre_finite.fn (F := Ideal) X W C).2.2 = fun _ => 1#1) (i) : IsReal (C i) := by
  have h := congrFun h i
  pointwise [Cert.Pre_finite.fn] at h
  exact isReal_of_cmp (C i) h

end Cert.UpGate

end
-- ==== Proof.UpEq.lean ====
module

public import proofs.«01_k».proof.Proof.UpRef
public import proofs.«01_k».proof.Proof.UpPre
public import proofs.«01_k».proof.Proof.Gen.ReferenceIdeal.Run
public import Idealize.ShloMosaic.Adequacy
public import Idealize.ShloMosaic.Init
public import Idealize.ShloMosaic.Lib.Quiescent

/-! The fused up-projection: the kernel's run and the reference's leave the same array. -/

@[expose] public section

noncomputable section

namespace Cert.UpGate

open Idealize.ShloMosaic Idealize.ShloMosaic.TcCoe Idealize.SL.Sem

/-- The reference runs to its end and keeps its arguments. -/
theorem reference_runs : quiescent_ReferenceIdeal := fun m ρ _ =>
  (θ_run ReferenceIdeal.defs _ _).mono (fun r h => ⟨fun c => (h c).2, sem_eq_zero_of_no_sems (by decide) r.2⟩)
    (ReferenceIdeal.Value.run (F := Ideal) m ρ)

/-- The kernel and the reference leave the same array. -/
theorem equal : algebraic_KernelIdeal_ReferenceIdeal_pre_finite := by
  intro m ρ m' ρ' hpre hagree
  refine ⟨fun c => gated (m ((c.tc : Thread KernelIdeal.nD KernelIdeal.τ).loc KernelIdeal.main_arg0)) (m ((c.tc : Thread KernelIdeal.nD KernelIdeal.τ).loc KernelIdeal.main_arg1)) (m ((c.tc : Thread KernelIdeal.nD KernelIdeal.τ).loc KernelIdeal.main_arg2)),
    (θ_run KernelIdeal.defs _ _).mono (fun r h c => ⟨(h c).1.trans (final m c), (h c).2⟩) (KernelIdeal.Value.run_blocks (F := Ideal) m ρ), ?_⟩
  refine (θ_run ReferenceIdeal.defs _ _).mono (fun r h c => ⟨(h c).1.trans ?_, (h c).2⟩) (ReferenceIdeal.Value.run (F := Ideal) m' ρ')
  obtain ⟨h0, h1, h2⟩ := hagree c
  obtain ⟨p0, p1, p2⟩ := hpre c
  rw [ReferenceIdeal.Read.val_main_v32_eq, h0, h1, h2]
  exact ref_eq _ _ _ (pre_rows _ _ _ p0) (pre_weights _ _ _ p1) (pre_taps _ _ _ p2)

end Cert.UpGate

end
-- ==== Proof.DownValue.lean ====
module

public import proofs.«01_k».proof.Defs
public import proofs.«01_k».proof.Proof.Gen.Kernel2Ideal.Value
public import Idealize.ShloMosaic.Lib.Pointwise
public import Idealize.ShloMosaic.Lib.Pipeline.ValueKit

/-!
The down projection's product `gated · wd`, its sum taken in four parts that an accumulator collects: what the kernel
leaves in its result array.
-/

@[expose] public section

noncomputable section

namespace Cert.DownProj

open Idealize.ShloMosaic Idealize.ShloMosaic.TcCoe Idealize.SL.Sem
open Cert.Kernel2Ideal Cert.Kernel2Ideal.Gen Cert.Kernel2Ideal.Value

/-- The product of the two arguments at one entry. -/
def prod (X : S16384x11264.Idx → EReal) (W : S11264x4096.Idx → EReal) (i : S16384x4096.Idx) : EReal :=
  ∑ k : Fin 11264, X (ix2 (i 0) k) * W (ix2 k (i 1))

/-- One part of an entry's sum: a block of columns of the left argument times the same block of rows of the right. -/
def part (x : S1024x2816.Idx → EReal) (w : S2816x1024.Idx → EReal) (j : S1024x1024.Idx) : EReal :=
  ∑ k : Fin 2816, x (ix2 (j 0) k) * w (ix2 k (j 1))

/-- The accumulator starts at zero. -/
theorem zero_apply (j : S1024x1024.Idx) : k0_pay1 (F := Ideal) j = 0 := by
  pointwise [k0_pay1]

/-- Each step adds its part to the accumulator. -/
theorem step_apply (acc : Vec Ideal S1024x1024 .f32) (x : Vec Ideal S1024x2816 .bf16) (w : Vec Ideal S2816x1024 .bf16)
    (j : S1024x1024.Idx) : k0_pay2 (F := Ideal) acc x w j = (acc j : EReal) + part x w j := by
  pointwise [k0_pay2, part]

/-- The last step writes the accumulator out; the change of format is exact over the extended reals. -/
theorem out_apply (acc : Vec Ideal S1024x1024 .f32) (j : S1024x1024.Idx) : k0_pay3 (F := Ideal) acc j = acc j := by
  pointwise [k0_pay3]

variable (m : (ℓ : Loc nD τ sig) → Buf (Elt Ideal) ℓ)

/-- The accumulator read back is the accumulator. -/
theorem read_back (x : Vec Ideal S1024x1024 .f32) : View.read (Elt Ideal) (View.whole cc0_scratch0)
    ((Memref.isWhole_whole cc0_scratch0).unread x) = x :=
  (Memref.isWhole_whole cc0_scratch0).read_unread x

/-- After the last of an entry's four points the accumulator holds the sum of the four parts. -/
theorem acc_apply (c : Dev nD) (t : Fin cfg0.N) (ht : t.val % 4 = 4 - 1) (j : S1024x1024.Idx) :
    (outsAt0 m c t.val t.isLt).2 j = ∑ s : Fin 4, part (iblk m c 0 ⟨4 * (t.val / 4) + s.val, by have := t.isLt; omega⟩)
      (iblk m c 1 ⟨4 * (t.val / 4) + s.val, by have := t.isLt; omega⟩) j := by
  rw [Pipeline.eq_sum_fin_of_reset_step_apply_of_flush (fun n h => ((outsAt0 m c n h).2 : S1024x1024.Idx → EReal)) 4 (fun _ => 0)
    (fun t j => part (iblk m c 0 t) (iblk m c 1 t) j)
    (fun t h j => by
      have h1 : ¬ t.val % 4 = 3 := by omega
      rw [outsAt0_A m c t h h1]; frame_out; rw [step_apply, zero_apply])
    (fun t h j => by
      by_cases h1 : t.val % 4 = 3
      · rw [outsAt0_C m c t h h1]; frame_out; rw [step_apply, read_back]
      · rw [outsAt0_B m c t h h1]; frame_out; rw [step_apply, read_back]) t ht j, zero_add]

/-- … and the result block holds the accumulator. -/
theorem block_apply (c : Dev nD) (t : Fin cfg0.N) (ht : t.val % 4 = 3) (j : S1024x1024.Idx) :
    (outsAt0 m c t.val t.isLt).1 j = (outsAt0 m c t.val t.isLt).2 j := by
  have h0 : ¬ t.val % 4 = 0 := by omega
  rw [outsAt0_C m c t h0 ht]; frame_out; rw [out_apply]

/-- The window indices over the grid, at the four points of one result block. -/
theorem idx : ∀ t : Fin cfg0.N, win0_0.index t 0 = win0_2.index t 0 ∧ win0_0.index t 1 = t.val % 4
    ∧ win0_1.index t 0 = t.val % 4 ∧ win0_1.index t 1 = win0_2.index t 1 ∧ win0_2.index t 0 = t.val / 16
    ∧ win0_2.index t 1 = t.val / 4 % 4 :=
  (by decide +kernel : ∀ t : Fin grid0.N, _)

/-- The result array after the run is the product. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  have ht : t.val % 4 = 3 := (flush0_2 t).mp hf
  blk_simp
  rw [after0_2, block_apply m c t ht, acc_apply m c t ht]
  unfold prod part
  refine Fin.sum_mul_add_congr fun s k hl => ?_
  obtain ⟨-, -, -, -, f0, f1⟩ := idx t
  obtain ⟨e0, e1, e2, e3, e4, e5⟩ := idx ⟨4 * (t.val / 4) + s.val, by have := lt_of_lt_of_eq t.isLt N_0; have := N_0; show _ < grid0.N; omega⟩
  dsimp only at e0 e1 e2 e3 e4 e5
  congr 1
  · blk_simp [iblk]
    refine congrArg (m ((c : Thread nD τ).loc main_arg0)) ?_
    blk_ext [e0, e1, e4, e5, f0, f1]
  · blk_simp [iblk]
    refine congrArg (m ((c : Thread nD τ).loc main_arg1)) ?_
    blk_ext [e2, e3, e4, e5, f0, f1]

end Cert.DownProj

end
-- ==== Proof.DownRef.lean ====
module

public import proofs.«01_k».proof.Proof.DownValue
public import proofs.«01_k».proof.Proof.Gen.Reference2Ideal.Read

/-! The reference of the down projection is the same product. -/

@[expose] public section

noncomputable section

namespace Cert.DownProj

open Idealize.ShloMosaic Idealize.ShloMosaic.TcCoe
open Cert.Reference2Ideal Cert.Reference2Ideal.Gen Cert.Reference2Ideal.Read

/-- The reference's array, entry by entry, is the product. -/
theorem ref_eq (X : FVec Ideal S16384x11264 .bf16) (W : FVec Ideal S11264x4096 .bf16) :
    val_main_v3 (F := Ideal) X W = prod X W := by
  funext i
  pointwise [val_main_v3, val_main_v2, val_main_v1, val_main_v0, prod]

end Cert.DownProj

end
-- ==== Proof.DownEq.lean ====
module

public import proofs.«01_k».proof.Proof.DownRef
public import proofs.«01_k».proof.Proof.Gen.Reference2Ideal.Run
public import Idealize.ShloMosaic.Adequacy
public import Idealize.ShloMosaic.Init
public import Idealize.ShloMosaic.Lib.Quiescent

/-! The down projection: the kernel's run and the reference's leave the same array. -/

@[expose] public section

noncomputable section

namespace Cert.DownProj

open Idealize.ShloMosaic Idealize.ShloMosaic.TcCoe Idealize.SL.Sem

/-- The reference runs to its end and keeps its arguments. -/
theorem reference_runs : quiescent_Reference2Ideal := fun m ρ _ =>
  (θ_run Reference2Ideal.defs _ _).mono (fun r h => ⟨fun c => (h c).2, sem_eq_zero_of_no_sems (by decide) r.2⟩)
    (Reference2Ideal.Value.run (F := Ideal) m ρ)

/-- The kernel and the reference leave the same array. -/
theorem equal : algebraic_Kernel2Ideal_Reference2Ideal := by
  intro m ρ m' ρ' _ hagree
  refine ⟨fun c => prod (m ((c.tc : Thread Kernel2Ideal.nD Kernel2Ideal.τ).loc Kernel2Ideal.main_arg0)) (m ((c.tc : Thread Kernel2Ideal.nD Kernel2Ideal.τ).loc Kernel2Ideal.main_arg1)),
    (θ_run Kernel2Ideal.defs _ _).mono (fun r h c => ⟨(h c).1.trans (final m c), (h c).2⟩) (Kernel2Ideal.Value.run_blocks (F := Ideal) m ρ), ?_⟩
  refine (θ_run Reference2Ideal.defs _ _).mono (fun r h c => ⟨(h c).1.trans ?_, (h c).2⟩) (Reference2Ideal.Value.run (F := Ideal) m' ρ')
  rw [Reference2Ideal.Read.val_main_v3_eq, ref_eq]
  obtain ⟨h0, h1⟩ := hagree c
  rw [h0, h1]

end Cert.DownProj

end
-- ==== Proof.InValue.lean ====
module

public import proofs.«01_k».proof.Defs
public import proofs.«01_k».proof.Proof.Gen.Kernel3Ideal.Value
public import Idealize.ShloMosaic.Lib.Pointwise
public import Idealize.ShloMosaic.Lib.Pipeline.ValueKit

/-!
The input projection's product `h · wi`: what the kernel leaves in its result array.
-/

@[expose] public section

noncomputable section

namespace Cert.InProj

open Idealize.ShloMosaic Idealize.ShloMosaic.TcCoe Idealize.SL.Sem
open Cert.Kernel3Ideal Cert.Kernel3Ideal.Gen Cert.Kernel3Ideal.Value

/-- The product of the two arguments at one entry. -/
def prod (X : S16384x4096.Idx → EReal) (W : S4096x11264.Idx → EReal) (i : S16384x11264.Idx) : EReal :=
  ∑ k : Fin 4096, X (ix2 (i 0) k) * W (ix2 k (i 1))

/-- The result block of one grid point is the product of its row block and its column block. -/
theorem block_apply (x : Vec Ideal S1024x4096 .bf16) (w : Vec Ideal S4096x1024 .bf16) (j : S1024x1024.Idx) :
    k0_pay1 (F := Ideal) x w j = ∑ k : Fin 4096, x (ix2 (j 0) k) * w (ix2 k (j 1)) := by
  pointwise [k0_pay1]

/-- A result block's entry is the product's, once its row and its column are the arguments'. -/
theorem block_eq (X : S16384x4096.Idx → EReal) (W : S4096x11264.Idx → EReal) (x : Vec Ideal S1024x4096 .bf16)
    (w : Vec Ideal S4096x1024 .bf16) (j : S1024x1024.Idx) (i : S16384x11264.Idx)
    (hx : ∀ k : Fin 4096, x (ix2 (j 0) k) = X (ix2 (i 0) k)) (hw : ∀ k : Fin 4096, w (ix2 k (j 1)) = W (ix2 k (i 1))) :
    k0_pay1 (F := Ideal) x w j = prod X W i := by
  rw [block_apply]
  exact Finset.sum_congr rfl fun k _ => by rw [hx, hw]

variable (m : (ℓ : Loc nD τ sig) → Buf (Elt Ideal) ℓ)

/-- The window indices over the grid: rows of the left array, columns of the right one, and the result's blocks. -/
theorem idx : ∀ t : Fin cfg0.N, win0_0.index t 0 = win0_2.index t 0 ∧ win0_0.index t 1 = 0
    ∧ win0_1.index t 0 = 0 ∧ win0_1.index t 1 = win0_2.index t 1 :=
  (by decide +kernel : ∀ t : Fin grid0.N, _)

/-- The result array after the run is the product. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  obtain ⟨e0, e1, e2, e3⟩ := idx t
  blk_simp
  rw [after0_2]
  frame_out
  refine block_eq _ _ _ _ _ _ (fun k => ?_) (fun k => ?_)
  · blk_simp [iblk]
    refine congrArg (m ((c : Thread nD τ).loc main_arg0)) ?_
    blk_ext [e0, e1]
  · blk_simp [iblk]
    refine congrArg (m ((c : Thread nD τ).loc main_arg1)) ?_
    blk_ext [e2, e3]

end Cert.InProj

end
-- ==== Proof.InRef.lean ====
module

public import proofs.«01_k».proof.Proof.InValue
public import proofs.«01_k».proof.Proof.Gen.Reference3Ideal.Read

/-! The reference of the input projection is the same product. -/

@[expose] public section

noncomputable section

namespace Cert.InProj

open Idealize.ShloMosaic Idealize.ShloMosaic.TcCoe
open Cert.Reference3Ideal Cert.Reference3Ideal.Gen Cert.Reference3Ideal.Read

/-- The reference's array, entry by entry, is the product. -/
theorem ref_eq (X : FVec Ideal S16384x4096 .bf16) (W : FVec Ideal S4096x11264 .bf16) :
    val_main_v3 (F := Ideal) X W = prod X W := by
  funext i
  pointwise [val_main_v3, val_main_v2, val_main_v1, val_main_v0, prod]

end Cert.InProj

end
-- ==== Proof.InEq.lean ====
module

public import proofs.«01_k».proof.Proof.InRef
public import proofs.«01_k».proof.Proof.Gen.Reference3Ideal.Run
public import Idealize.ShloMosaic.Adequacy
public import Idealize.ShloMosaic.Init
public import Idealize.ShloMosaic.Lib.Quiescent

/-! The input projection: the kernel's run and the reference's leave the same array. -/

@[expose] public section

noncomputable section

namespace Cert.InProj

open Idealize.ShloMosaic Idealize.ShloMosaic.TcCoe Idealize.SL.Sem

/-- The reference runs to its end and keeps its arguments. -/
theorem reference_runs : quiescent_Reference3Ideal := fun m ρ _ =>
  (θ_run Reference3Ideal.defs _ _).mono (fun r h => ⟨fun c => (h c).2, sem_eq_zero_of_no_sems (by decide) r.2⟩)
    (Reference3Ideal.Value.run (F := Ideal) m ρ)

/-- The kernel and the reference leave the same array. -/
theorem equal : algebraic_Kernel3Ideal_Reference3Ideal := by
  intro m ρ m' ρ' _ hagree
  refine ⟨fun c => prod (m ((c.tc : Thread Kernel3Ideal.nD Kernel3Ideal.τ).loc Kernel3Ideal.main_arg0)) (m ((c.tc : Thread Kernel3Ideal.nD Kernel3Ideal.τ).loc Kernel3Ideal.main_arg1)),
    (θ_run Kernel3Ideal.defs _ _).mono (fun r h c => ⟨(h c).1.trans (final m c), (h c).2⟩) (Kernel3Ideal.Value.run_blocks (F := Ideal) m ρ), ?_⟩
  refine (θ_run Reference3Ideal.defs _ _).mono (fun r h c => ⟨(h c).1.trans ?_, (h c).2⟩) (Reference3Ideal.Value.run (F := Ideal) m' ρ')
  rw [Reference3Ideal.Read.val_main_v3_eq, ref_eq]
  obtain ⟨h0, h1⟩ := hagree c
  rw [h0, h1]

end Cert.InProj

end
-- ==== Proof.OutValue.lean ====
module

public import proofs.«01_k».proof.Defs
public import proofs.«01_k».proof.Proof.Gen.Kernel4Ideal.Value
public import Idealize.ShloMosaic.Lib.Pointwise
public import Idealize.ShloMosaic.Lib.Pipeline.ValueKit

/-!
The output projection: three branch outputs side by side, times `wo`. The kernel lays a row block of the three branches
into one array at the first of a row block's points and keeps it for the others.
-/

@[expose] public section

noncomputable section

namespace Cert.OutProj

open Idealize.ShloMosaic Idealize.ShloMosaic.TcCoe Idealize.SL.Sem
open Cert.Kernel4Ideal Cert.Kernel4Ideal.Gen Cert.Kernel4Ideal.Value

/-- The three branch outputs side by side. -/
def cat {n : Nat} (A B : (⟨2, ![n, 1024]⟩ : Shape).Idx → EReal) (Z : (⟨2, ![n, 2048]⟩ : Shape).Idx → EReal) (r : Fin n)
    (k : Fin 4096) : EReal :=
  if h : k.val < 1024 then A (ix2 r ⟨k.val, h⟩)
  else if h' : k.val < 2048 then B (ix2 r ⟨k.val - 1024, by omega⟩)
  else Z (ix2 r ⟨k.val - 2048, by omega⟩)

/-- The product at one entry. -/
def prod (A B : S16384x1024.Idx → EReal) (Z : S16384x2048.Idx → EReal) (W : S4096x4096.Idx → EReal)
    (i : S16384x4096.Idx) : EReal :=
  ∑ k : Fin 4096, cat A B Z (i 0) k * W (ix2 k (i 1))

/-- The result block of one point, from the laid-out row block and a column block. -/
theorem block_apply (x : Vec Ideal S1024x4096 .bf16) (w : Vec Ideal S4096x512 .bf16) (j : S1024x512.Idx) :
    k0_pay4 (F := Ideal) x w j = ∑ k : Fin 4096, x (ix2 (j 0) k) * w (ix2 k (j 1)) := by
  pointwise [k0_pay4]

variable (m : (ℓ : Loc nD τ sig) → Buf (Elt Ideal) ℓ)

/-- The scratch read back is the scratch. -/
theorem read_back (x : Vec Ideal S1024x4096 .bf16) : View.read (Elt Ideal) (View.whole cc0_scratch0)
    ((Memref.isWhole_whole cc0_scratch0).unread x) = x :=
  (Memref.isWhole_whole cc0_scratch0).read_unread x

/-- The row block as it is laid out: three pieces side by side. -/
abbrev laid (a b : Vec Ideal S1024x1024 .bf16) (z : Vec Ideal S1024x2048 .f32) :
    List (View.Piece (Elt Ideal) S1024x4096 .bf16) :=
  [⟨Rect.unit ![0, 2048] ![1024, 2048] inb_S1024x4096_S1024x2048_0_2048, k0_pay3 z⟩,
    ⟨Rect.unit ![0, 1024] ![1024, 1024] inb_S1024x4096_S1024x1024_0_1024, k0_pay2 b⟩,
    ⟨Rect.unit ![0, 0] ![1024, 1024] inb_S1024x4096_S1024x1024_0_0, k0_pay1 a⟩]

/-- The three pieces laid out are the three branches side by side. -/
theorem laid_apply (a b : Vec Ideal S1024x1024 .bf16) (z : Vec Ideal S1024x2048 .f32) (j : S1024x4096.Idx) :
    View.canon (laid a b z) j = cat a b z (j 0) (j 1) := by
  canon_tiles x h using View.cover_of_tiledBy (laid a b z) ![1024, 1024] (by sl_kernel_rfl) j
  · pointwise [k0_pay3, cat]
    rw [dif_neg (by omega), dif_neg (by omega)]
    exact congrArg z (funext fun i => Fin.ext (by
      match i with
      | ⟨0, _⟩ => exact h0.symm
      | ⟨1, _⟩ => show (x 1).val = (j 1).val - 2048; omega))
  · pointwise [k0_pay2, cat]
    rw [dif_neg (by omega), dif_pos (by omega)]
    exact congrArg b (funext fun i => Fin.ext (by
      match i with
      | ⟨0, _⟩ => exact h0.symm
      | ⟨1, _⟩ => show (x 1).val = (j 1).val - 1024; omega))
  · pointwise [k0_pay1, cat]
    rw [dif_pos (by omega)]
    exact congrArg a (funext fun i => Fin.ext (by
      match i with
      | ⟨0, _⟩ => exact h0.symm
      | ⟨1, _⟩ => exact h1.symm))

/-- At the first point of a row block the scratch is filled with the three branches' blocks side by side. -/
theorem fill_apply (c : Dev nD) (t : Fin cfg0.N) (h : t.val % 8 = 0) (j : S1024x4096.Idx) :
    (outsAt0 m c t.val t.isLt).2 j = cat (iblk m c 0 t) (iblk m c 1 t) (iblk m c 2 t) (j 0) (j 1) := by
  rw [outsAt0_A m c t h]
  frame_out
  exact laid_apply _ _ _ j

/-- At the other points it is kept. -/
theorem keep (c : Dev nD) (t : Fin cfg0.N) (h : ¬ t.val % 8 = 0) :
    (outsAt0 m c t.val t.isLt).2 = (outsAt0 m c (t.val - 1) (Nat.lt_of_le_of_lt (Nat.sub_le _ _) t.isLt)).2 := by
  rw [outsAt0_B m c t h]
  dsimp only
  unfold sout0_B_0
  rfl

/-- The result block is always computed from the scratch the point leaves. -/
theorem out_apply (c : Dev nD) (t : Fin cfg0.N) :
    (outsAt0 m c t.val t.isLt).1 = k0_pay4 (outsAt0 m c t.val t.isLt).2 (iblk m c 3 t) := by
  by_cases h : t.val % 8 = 0
  · rw [outsAt0_A m c t h]; frame_out
    rw [View.readCov_eq_canon']
    refine congrArg (fun x => k0_pay4 x (iblk m c 3 t)) (funext fun j => congrArg _ (funext fun a => Fin.ext ?_))
    rw [Rect.idx_unit_val]
    match a with
    | ⟨0, _⟩ => exact Nat.zero_add _
    | ⟨1, _⟩ => exact Nat.zero_add _
  · rw [keep m c t h, outsAt0_B m c t h]; frame_out; rw [read_back]

/-- The window indices over the grid: a row block's eight points share the branches' row block. -/
theorem idx : ∀ t : Fin cfg0.N, win0_0.index t 0 = t.val / 8 ∧ win0_0.index t 1 = 0
    ∧ win0_1.index t 0 = t.val / 8 ∧ win0_1.index t 1 = 0 ∧ win0_2.index t 0 = t.val / 8 ∧ win0_2.index t 1 = 0
    ∧ win0_3.index t 0 = 0 ∧ win0_3.index t 1 = win0_4.index t 1 ∧ win0_4.index t 0 = t.val / 8 :=
  (by decide +kernel : ∀ t : Fin grid0.N, _)

/-- The row block at row `r` of the array: its three pieces are the arguments' rows. -/
theorem cat_iblk (c : Dev nD) (t : Fin cfg0.N) (r : Fin 1024) (R : Fin 16384) (hR : R.val = t.val / 8 * 1024 + r.val)
    (k : Fin 4096) : cat (n := 1024) (iblk m c 0 t) (iblk m c 1 t) (iblk m c 2 t) r k
      = cat (n := 16384) (m ((c : Thread nD τ).loc main_arg0)) (m ((c : Thread nD τ).loc main_arg1))
          (m ((c : Thread nD τ).loc main_arg2)) R k := by
  obtain ⟨e0, e1, e2, e3, e4, e5, -, -, -⟩ := idx t
  unfold cat
  split
  · blk_simp [iblk]
    refine congrArg (m ((c : Thread nD τ).loc main_arg0)) ?_
    blk_ext [e0, e1, hR]
  · split
    · blk_simp [iblk]
      refine congrArg (m ((c : Thread nD τ).loc main_arg1)) ?_
      blk_ext [e2, e3, hR]
    · blk_simp [iblk]
      refine congrArg (m ((c : Thread nD τ).loc main_arg2)) ?_
      blk_ext [e4, e5, hR]

/-- After every point the scratch holds the three branches' rows of the point's row block, side by side. -/
theorem scratch (c : Dev nD) : ∀ (n : Nat) (hn : n < cfg0.N) (r : Fin 1024) (R : Fin 16384)
    (_ : R.val = n / 8 * 1024 + r.val) (k : Fin 4096), (outsAt0 m c n hn).2 (ix2 r k)
      = cat (n := 16384) (m ((c : Thread nD τ).loc main_arg0)) (m ((c : Thread nD τ).loc main_arg1))
          (m ((c : Thread nD τ).loc main_arg2)) R k
  | 0, hn, r, R, hR, k => by
    rw [fill_apply m c ⟨0, hn⟩ rfl (ix2 r k)]
    exact cat_iblk m c ⟨0, hn⟩ r R hR k
  | n + 1, hn, r, R, hR, k => by
    by_cases h : (n + 1) % 8 = 0
    · rw [fill_apply m c ⟨n + 1, hn⟩ h (ix2 r k)]
      exact cat_iblk m c ⟨n + 1, hn⟩ r R hR k
    · rw [keep m c ⟨n + 1, hn⟩ h]
      exact scratch c n (Nat.lt_of_succ_lt hn) r R (by omega) k

/-- The result array after the run is the product. -/
theorem final (c : Dev nD) : (dats m 0 c).arrAt 4 cfg0.N
    = prod (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  obtain ⟨-, -, -, -, -, -, e6, e7, e8⟩ := idx t
  blk_simp
  rw [after0_4, out_apply m c t, block_apply]
  refine Finset.sum_congr (M := EReal) rfl fun k _ => ?_
  congr 1
  · refine scratch m c t.val t.isLt _ _ ?_ k
    blk_simp
    rw [e8]
  · blk_simp [iblk]
    refine congrArg (m ((c : Thread nD τ).loc main_arg3)) ?_
    blk_ext [e6, e7]

end Cert.OutProj

end
-- ==== Proof.OutRef.lean ====
module

public import proofs.«01_k».proof.Proof.OutValue
public import proofs.«01_k».proof.Proof.Gen.Reference4Ideal.Read

/-! The reference of the output projection is the same product. -/

@[expose] public section

noncomputable section

namespace Cert.OutProj

open Idealize.ShloMosaic Idealize.ShloMosaic.TcCoe
open Cert.Reference4Ideal Cert.Reference4Ideal.Gen Cert.Reference4Ideal.Read

variable (A B : FVec Ideal S16384x1024 .bf16) (Z : FVec Ideal S16384x2048 .f32) (W : FVec Ideal S4096x4096 .bf16)

/-- The reference's three branches side by side. -/
theorem cat_ref (r : Fin 16384) (k : Fin 4096) : val_main_v2 (F := Ideal) A B Z (ix2 r k) = cat A B Z r k := by
  pointwise [val_main_v2, val_main_v1, val_main_v0, cat]
  by_cases h : k.val < 1024
  · rw [dif_pos h, dif_pos h]
  · rw [dif_neg h, dif_neg h]
    by_cases h' : k.val < 2048
    · rw [dif_pos (by omega), dif_pos h']
    · rw [dif_neg (by omega), dif_neg h']
      exact congrArg Z (congrArg (ix2 r) (Fin.ext (by show k.val - 1024 - 1024 = k.val - 2048; omega)))

/-- The reference's array, entry by entry, is the product. -/
theorem ref_eq : val_main_v5 (F := Ideal) A B Z W = prod A B Z W := by
  funext i
  rw [val_main_v5_apply, val_main_v4_apply]
  refine Finset.sum_congr (M := EReal) rfl fun k _ => ?_
  rw [val_main_v3_apply]
  congr 1
  · refine Eq.trans (congrArg (val_main_v2 (F := Ideal) A B Z) (funext fun a => ?_)) (cat_ref A B Z (i 0) k)
    match a with
    | ⟨0, _⟩ => rfl
    | ⟨1, _⟩ => rfl
  · show W _ = W _
    refine congrArg W (funext fun a => ?_)
    match a with
    | ⟨0, _⟩ => rfl
    | ⟨1, _⟩ => rfl

end Cert.OutProj

end
-- ==== Proof.OutEq.lean ====
module

public import proofs.«01_k».proof.Proof.OutRef
public import proofs.«01_k».proof.Proof.Gen.Reference4Ideal.Run
public import Idealize.ShloMosaic.Adequacy
public import Idealize.ShloMosaic.Init
public import Idealize.ShloMosaic.Lib.Quiescent

/-! The output projection: the kernel's run and the reference's leave the same array. -/

@[expose] public section

noncomputable section

namespace Cert.OutProj

open Idealize.ShloMosaic Idealize.ShloMosaic.TcCoe Idealize.SL.Sem

/-- The reference runs to its end and keeps its arguments. -/
theorem reference_runs : quiescent_Reference4Ideal := fun m ρ _ =>
  (θ_run Reference4Ideal.defs _ _).mono (fun r h => ⟨fun c => (h c).2, sem_eq_zero_of_no_sems (by decide) r.2⟩)
    (Reference4Ideal.Value.run (F := Ideal) m ρ)

/-- The kernel and the reference leave the same array. -/
theorem equal : algebraic_Kernel4Ideal_Reference4Ideal := by
  intro m ρ m' ρ' _ hagree
  refine ⟨fun c => prod (m ((c.tc : Thread Kernel4Ideal.nD Kernel4Ideal.τ).loc Kernel4Ideal.main_arg0)) (m ((c.tc : Thread Kernel4Ideal.nD Kernel4Ideal.τ).loc Kernel4Ideal.main_arg1)) (m ((c.tc : Thread Kernel4Ideal.nD Kernel4Ideal.τ).loc Kernel4Ideal.main_arg2)) (m ((c.tc : Thread Kernel4Ideal.nD Kernel4Ideal.τ).loc Kernel4Ideal.main_arg3)),
    (θ_run Kernel4Ideal.defs _ _).mono (fun r h c => ⟨(h c).1.trans (final m c), (h c).2⟩) (Kernel4Ideal.Value.run_blocks (F := Ideal) m ρ), ?_⟩
  refine (θ_run Reference4Ideal.defs _ _).mono (fun r h c => ⟨(h c).1.trans ?_, (h c).2⟩) (Reference4Ideal.Value.run (F := Ideal) m' ρ')
  rw [Reference4Ideal.Read.val_main_v5_eq, ref_eq]
  obtain ⟨h0, h1, h2, h3⟩ := hagree c
  rw [h0, h1, h2, h3]

end Cert.OutProj

end
-- ==== Proof.lean ====
/- The certificate's assembly: every program's frame, and the equation of each call with its reference. -/
module

public import proofs.«01_k».proof.Defs
public import proofs.«01_k».proof.Proof.Gen.Kernel.Frame
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel8.Frame
public import proofs.«01_k».proof.Proof.Gen.Kernel9.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.ResEq
public import proofs.«01_k».proof.Proof.EmbEq
public import proofs.«01_k».proof.Proof.SconvEq
public import proofs.«01_k».proof.Proof.HshortEq
public import proofs.«01_k».proof.Proof.TapsEq
public import proofs.«01_k».proof.Proof.CastInEq
public import proofs.«01_k».proof.Proof.CastOutEq
public import proofs.«01_k».proof.Proof.CastUpEq
public import proofs.«01_k».proof.Proof.CastDownEq
public import proofs.«01_k».proof.Proof.UpEq
public import proofs.«01_k».proof.Proof.DownEq
public import proofs.«01_k».proof.Proof.InEq
public import proofs.«01_k».proof.Proof.OutEq

@[expose] public section

noncomputable section

namespace Cert.Proof

open Idealize.ShloMosaic Idealize.SL.Sem

/-- Everything claimed: the runs of the programs, the sameness of each kernel and its idealization, and the equation of
each kernel with its reference. -/
theorem claim : Cert.Claim :=
  ⟨Kernel.Gen.facts, KernelIdeal.Gen.facts, ReferenceIdeal.Gen.facts,
    Kernel2.Gen.facts, Kernel2Ideal.Gen.facts, Reference2Ideal.Gen.facts,
    Kernel3.Gen.facts, Kernel3Ideal.Gen.facts, Reference3Ideal.Gen.facts,
    Kernel4.Gen.facts, Kernel4Ideal.Gen.facts, Reference4Ideal.Gen.facts,
    Kernel5.Gen.facts, Kernel5Ideal.Gen.facts, Reference5Ideal.Gen.facts,
    Kernel6.Gen.facts, Kernel6Ideal.Gen.facts, Reference6Ideal.Gen.facts,
    Kernel8.Gen.facts, Kernel8Ideal.Gen.facts, Reference8Ideal.Gen.facts,
    Kernel9.Gen.facts, Kernel9Ideal.Gen.facts, Reference9Ideal.Gen.facts,
    Kernel13.Gen.facts, Kernel13Ideal.Gen.facts, Reference13Ideal.Gen.facts,
    Kernel14.Gen.facts, Kernel14Ideal.Gen.facts, Reference14Ideal.Gen.facts,
    Kernel15.Gen.facts, Kernel15Ideal.Gen.facts, Reference15Ideal.Gen.facts,
    Kernel16.Gen.facts, Kernel16Ideal.Gen.facts, Reference16Ideal.Gen.facts,
    Kernel17.Gen.facts, Kernel17Ideal.Gen.facts, Reference17Ideal.Gen.facts,
    Pre_finite.Gen.facts,
    fun m ρ _ => Kernel.Gen.frame m ρ, fun m ρ _ => KernelIdeal.Gen.frame m ρ, fun m ρ _ => KernelIdeal.Gen.frame m ρ,
    UpGate.reference_runs, fun m ρ _ => UpGate.reference_runs m ρ trivial,
    fun m ρ _ => Kernel2.Gen.frame m ρ, fun m ρ _ => Kernel2Ideal.Gen.frame m ρ, DownProj.reference_runs,
    fun m ρ _ => Kernel3.Gen.frame m ρ, fun m ρ _ => Kernel3Ideal.Gen.frame m ρ, InProj.reference_runs,
    fun m ρ _ => Kernel4.Gen.frame m ρ, fun m ρ _ => Kernel4Ideal.Gen.frame m ρ, OutProj.reference_runs,
    fun m ρ _ => Kernel5.Gen.frame m ρ, fun m ρ _ => Kernel5Ideal.Gen.frame m ρ, ResNorm.reference_runs,
    fun m ρ _ => Kernel6.Gen.frame m ρ, fun m ρ _ => Kernel6Ideal.Gen.frame m ρ, EmbNorm.reference_runs,
    fun m ρ _ => Kernel8.Gen.frame m ρ, fun m ρ _ => Kernel8Ideal.Gen.frame m ρ, ShortConv.reference_runs,
    fun m ρ _ => Kernel9.Gen.frame m ρ, fun m ρ _ => Kernel9Ideal.Gen.frame m ρ, HyenaShort.reference_runs,
    fun m ρ _ => Kernel13.Gen.frame m ρ, fun m ρ _ => Kernel13Ideal.Gen.frame m ρ, Taps.reference_runs,
    fun m ρ _ => Kernel14.Gen.frame m ρ, fun m ρ _ => Kernel14Ideal.Gen.frame m ρ, CastIn.reference_runs,
    fun m ρ _ => Kernel15.Gen.frame m ρ, fun m ρ _ => Kernel15Ideal.Gen.frame m ρ, CastOut.reference_runs,
    fun m ρ _ => Kernel16.Gen.frame m ρ, fun m ρ _ => Kernel16Ideal.Gen.frame m ρ, CastUp.reference_runs,
    fun m ρ _ => Kernel17.Gen.frame m ρ, fun m ρ _ => Kernel17Ideal.Gen.frame m ρ, CastDown.reference_runs,
    trivial, UpGate.equal, trivial, DownProj.equal, trivial, InProj.equal, trivial, OutProj.equal,
    trivial, ResNorm.equal, trivial, EmbNorm.equal, trivial, ShortConv.equal, trivial, HyenaShort.equal,
    trivial, Taps.equal, trivial, CastIn.equal, trivial, CastOut.equal, trivial, CastUp.equal, trivial, CastDown.equal⟩

end Cert.Proof

end
